-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v47_0)) (v1 : (c : Dev Cert.Kernel6Ideal.nD) → Buf (Elt Ideal) ((c.tc : Thread Cert.Kernel6Ideal.nD Cert.Kernel6Ideal.τ).loc Cert.Kernel6Ideal.main_v47_1)) (v2 : (c : Dev Cert.Kernel6Ideal.nD) → Buf (Elt Ideal) ((c.tc : Thread Cert.Kernel6Ideal.nD Cert.Kernel6Ideal.τ).loc Cert.Kernel6Ideal.main_v47_2)) (v3 : (c : Dev Cert.Kernel6Ideal.nD) → Buf (Elt Ideal) ((c.tc : Thread Cert.Kernel6Ideal.nD Cert.Kernel6Ideal.τ).loc Cert.Kernel6Ideal.main_v47_3)) (v4 : (c : Dev Cert.Kernel6Ideal.nD) → Buf (Elt Ideal) ((c.tc : Thread Cert.Kernel6Ideal.nD Cert.Kernel6Ideal.τ).loc Cert.Kernel6Ideal.main_v47_4)) (v5 : (c : Dev Cert.Kernel6Ideal.nD) → Buf (Elt Ideal) ((c.tc : Thread Cert.Kernel6Ideal.nD Cert.Kernel6Ideal.τ).loc Cert.Kernel6Ideal.main_v47_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47_0) = v0 c
          ∧ r.2.mem ((c.tc : Thread Cert.Kernel6Ideal.nD Cert.Kernel6Ideal.τ).loc Cert.Kernel6Ideal.main_v47_1) = v1 c
          ∧ r.2.mem ((c.tc : Thread Cert.Kernel6Ideal.nD Cert.Kernel6Ideal.τ).loc Cert.Kernel6Ideal.main_v47_2) = v2 c
          ∧ r.2.mem ((c.tc : Thread Cert.Kernel6Ideal.nD Cert.Kernel6Ideal.τ).loc Cert.Kernel6Ideal.main_v47_3) = v3 c
          ∧ r.2.mem ((c.tc : Thread Cert.Kernel6Ideal.nD Cert.Kernel6Ideal.τ).loc Cert.Kernel6Ideal.main_v47_4) = v4 c
          ∧ r.2.mem ((c.tc : Thread Cert.Kernel6Ideal.nD Cert.Kernel6Ideal.τ).loc Cert.Kernel6Ideal.main_v47_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v91) = v0 c
          ∧ r.2.mem ((c.tc : Thread Cert.Reference6Ideal.nD Cert.Reference6Ideal.τ).loc Cert.Reference6Ideal.main_v94) = v1 c
          ∧ r.2.mem ((c.tc : Thread Cert.Reference6Ideal.nD Cert.Reference6Ideal.τ).loc Cert.Reference6Ideal.main_v97) = v2 c
          ∧ r.2.mem ((c.tc : Thread Cert.Reference6Ideal.nD Cert.Reference6Ideal.τ).loc Cert.Reference6Ideal.main_v128) = v3 c
          ∧ r.2.mem ((c.tc : Thread Cert.Reference6Ideal.nD Cert.Reference6Ideal.τ).loc Cert.Reference6Ideal.main_v154) = v4 c
          ∧ r.2.mem ((c.tc : Thread Cert.Reference6Ideal.nD Cert.Reference6Ideal.τ).loc Cert.Reference6Ideal.main_v83) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16896x512 : Shape := ⟨2, ![16896, 512]⟩
abbrev S66x512x256 : Shape := ⟨3, ![66, 512, 256]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16896x512 : S_.BroadcastsInDim S16896x512 (![] : Fin 0 → Fin S16896x512.rank)
  bcast_S_S66x512x256 : S_.BroadcastsInDim S66x512x256 (![] : Fin 0 → Fin S66x512x256.rank)
  bcast_S_S4x64 : S_.BroadcastsInDim S4x64 (![] : Fin 0 → Fin S4x64.rank)

variable [Facts]

def fn_part1 {F : FTy → Type} [FloatOps F] (main_arg3 : FVec F S4x64 .f32) (main_v6 : IVec S16896x512 1) (main_v13 : IVec S16896x512 1) (main_v16 : IVec S66x512x256 1) (main_v17 : FVec F S66x512x256 .f32) (main_cst_4 : FVec F S_ .f32) : IVec S16896x512 1 × IVec S16896x512 1 × IVec S66x512x256 1 × IVec S4x64 1 :=
  let main_v18 : FVec F S66x512x256 .f32 := broadcastInDim S66x512x256 ![] bcast_S_S66x512x256 main_cst_4
  let main_v19 : IVec S66x512x256 1 := cmpf .ogt main_v17 main_v18
  let main_v20 : IVec S66x512x256 1 := andi main_v16 main_v19
  let main_cst_5 : FVec F S_ .f32 := constant S_ .f32 0x7F800000#32
  let main_v21 : FVec F S4x64 .f32 := broadcastInDim S4x64 ![] bcast_S_S4x64 main_cst_5
  let main_v22 : IVec S4x64 1 := cmpf .olt main_arg3 main_v21
  let main_cst_6 : FVec F S_ .f32 := constant S_ .f32 0xFF800000#32
  let main_v23 : FVec F S4x64 .f32 := broadcastInDim S4x64 ![] bcast_S_S4x64 main_cst_6
  let main_v24 : IVec S4x64 1 := cmpf .ogt main_arg3 main_v23
  let main_v25 : IVec S4x64 1 := andi main_v22 main_v24
  (main_v6, main_v13, main_v20, main_v25)

def fn {F : FTy → Type} [FloatOps F] (main_arg0 : FVec F S16896x512 .bf16) (main_arg1 : FVec F S16896x512 .bf16) (main_arg2 : FVec F S66x512x256 .bf16) (main_arg3 : FVec F S4x64 .f32) (main_arg4 : FVec F S128 .f32) : IVec S16896x512 1 × IVec S16896x512 1 × IVec S66x512x256 1 × IVec S4x64 1 :=
  let main_v0 : FVec F S16896x512 .f32 := (extf .f32 · bitsLt_bf16_f32) main_arg0
  let main_cst : FVec F S_ .f32 := constant S_ .f32 0x7F800000#32
  let main_v1 : FVec F S16896x512 .f32 := broadcastInDim S16896x512 ![] bcast_S_S16896x512 main_cst
  let main_v2 : IVec S16896x512 1 := cmpf .olt main_v0 main_v1
  let main_v3 : FVec F S16896x512 .f32 := (extf .f32 · bitsLt_bf16_f32) main_arg0
  let main_cst_0 : FVec F S_ .f32 := constant S_ .f32 0xFF800000#32
  let main_v4 : FVec F S16896x512 .f32 := broadcastInDim S16896x512 ![] bcast_S_S16896x512 main_cst_0
  let main_v5 : IVec S16896x512 1 := cmpf .ogt main_v3 main_v4
  let main_v6 : IVec S16896x512 1 := andi main_v2 main_v5
  let main_v7 : FVec F S16896x512 .f32 := (extf .f32 · bitsLt_bf16_f32) main_arg1
  let main_cst_1 : FVec F S_ .f32 := constant S_ .f32 0x7F800000#32
  let main_v8 : FVec F S16896x512 .f32 := broadcastInDim S16896x512 ![] bcast_S_S16896x512 main_cst_1
  let main_v9 : IVec S16896x512 1 := cmpf .olt main_v7 main_v8
  let main_v10 : FVec F S16896x512 .f32 := (extf .f32 · bitsLt_bf16_f32) main_arg1
  let main_cst_2 : FVec F S_ .f32 := constant S_ .f32 0xFF800000#32
  let main_v11 : FVec F S16896x512 .f32 := broadcastInDim S16896x512 ![] bcast_S_S16896x512 main_cst_2
  let main_v12 : IVec S16896x512 1 := cmpf .ogt main_v10 main_v11
  let main_v13 : IVec S16896x512 1 := andi main_v9 main_v12
  let main_v14 : FVec F S66x512x256 .f32 := (extf .f32 · bitsLt_bf16_f32) main_arg2
  let main_cst_3 : FVec F S_ .f32 := constant S_ .f32 0x7F800000#32
  let main_v15 : FVec F S66x512x256 .f32 := broadcastInDim S66x512x256 ![] bcast_S_S66x512x256 main_cst_3
  let main_v16 : IVec S66x512x256 1 := cmpf .olt main_v14 main_v15
  let main_v17 : FVec F S66x512x256 .f32 := (extf .f32 · bitsLt_bf16_f32) main_arg2
  let main_cst_4 : FVec F S_ .f32 := constant S_ .f32 0xFF800000#32
  fn_part1 (F := F) main_arg3 main_v6 main_v13 main_v16 main_v17 main_cst_4
-- ==== Kernel.lean ====
abbrev S16896x512 : Shape := ⟨2, ![16896, 512]⟩
abbrev S66x512x256 : Shape := ⟨3, ![66, 512, 256]⟩
abbrev S4x64 : Shape := ⟨2, ![4, 64]⟩
abbrev S128 : Shape := ⟨1, ![128]⟩
abbrev S128x1 : Shape := ⟨2, ![128, 1]⟩
abbrev S16384x512 : Shape := ⟨2, ![16384, 512]⟩
abbrev S512x128 : Shape := ⟨2, ![512, 128]⟩
abbrev S8448x128 : Shape := ⟨2, ![8448, 128]⟩
abbrev S33x128x256 : Shape := ⟨3, ![33, 128, 256]⟩
abbrev S2x1x512 : Shape := ⟨3, ![2, 1, 512]⟩
abbrev S2x128x512 : Shape := ⟨3, ![2, 128, 512]⟩
abbrev S256x128 : Shape := ⟨2, ![256, 128]⟩
abbrev S1x128x256 : Shape := ⟨3, ![1, 128, 256]⟩
abbrev S128x256 : Shape := ⟨2, ![128, 256]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S1x64 : Shape := ⟨2, ![1, 64]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S66x512x256, .bf16⟩
  | .hbm, ⟨3, _⟩ => ⟨S4x64, .f32⟩
  | .hbm, ⟨4, _⟩ => ⟨S128, .f32⟩
  | .hbm, ⟨5, _⟩ => ⟨S128x1, .f32⟩
  | .hbm, ⟨6, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S8448x128, .bf16⟩
  | .local _ .vmem, ⟨3, _⟩ => ⟨S33x128x256, .bf16⟩
  | .local _ .vmem, ⟨4, _⟩ => ⟨S4x64, .f32⟩
  | .local _ .vmem, ⟨5, _⟩ => ⟨S128x1, .f32⟩
  | .local _ .vmem, ⟨6, _⟩ => ⟨S512x128, .bf16⟩
  | .local _ .vmem, ⟨7, _⟩ => ⟨S512x128, .bf16⟩
  | .local _ .vmem, ⟨8, _⟩ => ⟨S2x1x512, .f32⟩
  | .local _ .vmem, ⟨9, _⟩ => ⟨S2x1x512, .f32⟩
  | .local _ .vmem, ⟨10, _⟩ => ⟨S2x128x512, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32 : BitVec 32 := 0#32
  let c33_i32 : BitVec 32 := 33#32
  let v19 : BitVec 32 := Scalar.addi c0_i32 c33_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v74 : BitVec 32 := Scalar.muli arg12 c256_i32
  v74
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v74 : BitVec 32 := Scalar.muli arg12 c256_i32
  let v75 : BitVec 32 := v74
  let v76 : Index := Scalar.indexCast v75
  let c0_40 : Index := 0#32
  ![v76.toNat, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v78 : Index := Scalar.indexCast arg12
  let c0_41 : Index := 0#32
  let c0_42 : Index := 0#32
  ![v78.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c0_i32 : BitVec 32 := 0#32
  let v1 : BitVec 32 := Scalar.addi v0 c0_i32
  let c33_i32_0 : BitVec 32 := 33#32
  let v2 : BitVec 32 := Scalar.divsi v1 c33_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c33_i32_0 c0_i32_3
  let v9 : BitVec 32 := Scalar.extui v8
  let c0_i32_4 : BitVec 32 := 0#32
  let v10 : BitVec 1 := Scalar.cmpi .slt c33_i32_0 c0_i32_4
  let v11 : BitVec 32 := Scalar.extui v10
  let v12 : BitVec 32 := Scalar.subi v9 v11
  let v13 : BitVec 1 := Scalar.cmpi .ne v7 v12
  let v14 : BitVec 32 := Scalar.remsi v1 c33_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let c0_i32_7 : BitVec 32 := 0#32
  ![v18.toNat, arg1.toNat, c0_i32_6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S8448x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S33x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16896x512 : Shape := ⟨2, ![16896, 512]⟩
abbrev S66x512x256 : Shape := ⟨3, ![66, 512, 256]⟩
abbrev S4x64 : Shape := ⟨2, ![4, 64]⟩
abbrev S128 : Shape := ⟨1, ![128]⟩
abbrev S16384x512 : Shape := ⟨2, ![16384, 512]⟩
abbrev S2x8192x4x2x64 : Shape := ⟨5, ![2, 8192, 4, 2, 64]⟩
abbrev S2x8448x4x2x64 : Shape := ⟨5, ![2, 8448, 4, 2, 64]⟩
abbrev S2x33x4x128x256 : Shape := ⟨5, ![2, 33, 4, 128, 256]⟩
abbrev S2x33x256x4x128 : Shape := ⟨5, ![2, 33, 256, 4, 128]⟩
abbrev S2x8448x4x128 : Shape := ⟨4, ![2, 8448, 4, 128]⟩
abbrev S1x64 : Shape := ⟨2, ![1, 64]⟩
abbrev S64 : Shape := ⟨1, ![64]⟩
abbrev S_ : Shape := ⟨0, ![]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x128x8192 : Shape := ⟨4, ![2, 4, 128, 8192]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S66x512x256, .bf16⟩
  | .hbm, ⟨3, _⟩ => ⟨S4x64, .f32⟩
  | .hbm, ⟨4, _⟩ => ⟨S128, .f32⟩
  | .hbm, ⟨5, _⟩ => ⟨S16384x512, .bf16⟩
  | .hbm, ⟨6, _⟩ => ⟨S16384x512, .f32⟩
  | .hbm, ⟨7, _⟩ => ⟨S2x8192x4x2x64, .f32⟩
  | .hbm, ⟨8, _⟩ => ⟨S16896x512, .f32⟩
  | .hbm, ⟨9, _⟩ => ⟨S2x8448x4x2x64, .f32⟩
  | .hbm, ⟨10, _⟩ => ⟨S66x512x256, .f32⟩
  | .hbm, ⟨11, _⟩ => ⟨S2x33x4x128x256, .f32⟩
  | .hbm, ⟨12, _⟩ => ⟨S2x33x256x4x128, .f32⟩
  | .hbm, ⟨13, _⟩ => ⟨S2x8448x4x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x4x2x8192x8448, .f32⟩
  | .hbm, ⟨34, _⟩ => ⟨S_, .f32⟩
  | .hbm, ⟨35, _⟩ => ⟨S2x4x2x8192, .f32⟩
  | .hbm, ⟨36, _⟩ => ⟨S_, .f32⟩
  | .hbm, ⟨37, _⟩ => ⟨S2x4x2x8192, .f32⟩
  | .hbm, ⟨38, _⟩ => ⟨S2x4x2x8192, .f32⟩
  | .hbm, ⟨39, _⟩ => ⟨S2x4x2x8192x1, .f32⟩
  | .hbm, ⟨40, _⟩ => ⟨S2x4x2x8192x8448, .f32⟩
  | .hbm, ⟨41, _⟩ => ⟨S2x4x2x8192x8448, .f32⟩
  | .hbm, ⟨42, _⟩ => ⟨S2x4x2x8192x8448, .f32⟩
  | .hbm, ⟨43, _⟩ => ⟨S_, .f32⟩
  | .hbm, ⟨44, _⟩ => ⟨S2x4x2x8192, .f32⟩
  | .hbm, ⟨45, _⟩ => ⟨S2x4x2x8192x1, .f32⟩
  | .hbm, ⟨46, _⟩ => ⟨S2x4x2x8192x8448, .f32⟩
  | .hbm, ⟨47, _⟩ => ⟨S2x4x2x8192x8448, .f32⟩
  | .hbm, ⟨48, _⟩ => ⟨S2x4x1x8192x8448, .f32⟩
  | .hbm, ⟨49, _⟩ => ⟨S2x4x8192x8448, .f32⟩
  | .hbm, ⟨50, _⟩ => ⟨S2x4x1x8192x8448, .f32⟩
  | .hbm, ⟨51, _⟩ => ⟨S2x4x8192x8448, .f32⟩
  | .hbm, ⟨52, _⟩ => ⟨S2x4x8192x8448, .f32⟩
  | .hbm, ⟨53, _⟩ => ⟨S2x4x8192x8448, .f32⟩
  | .hbm, ⟨54, _⟩ => ⟨S2x4x8192x8448, .f32⟩
  | .hbm, ⟨55, _⟩ => ⟨S2x4x128x8192, .f32⟩
  | .hbm, ⟨56, _⟩ => ⟨S2x8192x4x128, .f32⟩
  | .hbm, ⟨57, _⟩ => ⟨S2x8192x4x128, .f32⟩
  | .hbm, ⟨58, _⟩ => ⟨S_, .f32⟩
  | .hbm, ⟨59, _⟩ => ⟨S2x8192x4, .f32⟩
  | .hbm, ⟨60, _⟩ => ⟨S2x8192x4x1, .f32⟩
  | .hbm, ⟨61, _⟩ => ⟨S_, .f32⟩
  | .hbm, ⟨62, _⟩ => ⟨S2x8192x4x1, .f32⟩
  | .hbm, ⟨63, _⟩ => ⟨S2x8192x4x1, .f32⟩
  | .hbm, ⟨64, _⟩ => ⟨S_, .f32⟩
  | .hbm, ⟨65, _⟩ => ⟨S2x8192x4x1, .f32⟩
  | .hbm, ⟨66, _⟩ => ⟨S2x8192x4x1, .f32⟩
  | .hbm, ⟨67, _⟩ => ⟨S2x8192x4x1, .f32⟩
  | .hbm, ⟨68, _⟩ => ⟨S2x8192x4x128, .f32⟩
  | .hbm, ⟨69, _⟩ => ⟨S2x8192x4x128, .f32⟩
  | .hbm, ⟨70, _⟩ => ⟨S1x1x1x128, .f32⟩
  | .hbm, ⟨71, _⟩ => ⟨S2x8192x4x128, .f32⟩
  | .hbm, ⟨72, _⟩ => ⟨S2x8192x4x128, .f32⟩
  | .hbm, ⟨73, _⟩ => ⟨S_, .f32⟩
  | .hbm, ⟨74, _⟩ => ⟨S2x8192x4x128, .f32⟩
  | .hbm, ⟨75, _⟩ => ⟨S2x8192x4x128, .f32⟩
  | .hbm, ⟨76, _⟩ => ⟨S16384x512, .f32⟩
  | .hbm, ⟨77, _⟩ => ⟨S16384x512, .bf16⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Kernel2.lean ====
abbrev S16384x1024 : Shape := ⟨2, ![16384, 1024]⟩
abbrev S8x9x1024 : Shape := ⟨3, ![8, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S8x9x1024 : Shape := ⟨3, ![8, 9, 1024]⟩
abbrev S1024 : Shape := ⟨1, ![1024]⟩
abbrev S1024x2816 : Shape := ⟨2, ![1024, 2816]⟩
abbrev S2816x1024 : Shape := ⟨2, ![2816, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x8192x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S_, .f32⟩
  | .hbm, ⟨46, _⟩ => ⟨S2x8192x2816, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel3.lean ====
abbrev S16384x1024 : Shape := ⟨2, ![16384, 1024]⟩
abbrev S8x9x1024 : Shape := ⟨3, ![8, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S8x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S8x9x1024 : Shape := ⟨3, ![8, 9, 1024]⟩
abbrev S1024 : Shape := ⟨1, ![1024]⟩
abbrev S1024x2816 : Shape := ⟨2, ![1024, 2816]⟩
abbrev S2816x1024 : Shape := ⟨2, ![2816, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S2x8192x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Kernel4.lean ====
abbrev S16384x1024 : Shape := ⟨2, ![16384, 1024]⟩
abbrev S8x9x1024 : Shape := ⟨3, ![8, 9, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S512x1024 : Shape := ⟨2, ![512, 1024]⟩
abbrev S8x1024 : Shape := ⟨2, ![8, 1024]⟩
abbrev S1x9x1024 : Shape := ⟨3, ![1, 9, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S8x9x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1024x3072, .bf16⟩
  | .hbm, ⟨7, _⟩ => ⟨S1024x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S8x9x1024 : Shape := ⟨3, ![8, 9, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S2x8194x1024 : Shape := ⟨3, ![2, 8194, 1024]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x9x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S2x8192x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x3072, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S_, .i32⟩
  | .hbm, ⟨45, _⟩ => ⟨S_, .f32⟩
  | .hbm, ⟨46, _⟩ => ⟨S2x8194x1024, .f32⟩
  | .hbm, ⟨47, _⟩ => ⟨S2x8192x1024, .f32⟩
  | .hbm, ⟨48, _⟩ => ⟨S1x1024, .f32⟩
  | .hbm, ⟨49, _⟩ => ⟨S1024, .f32⟩
  | .hbm, ⟨50, _⟩ => ⟨S1x1x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S1x1024, .f32⟩
  | .hbm, ⟨55, _⟩ => ⟨S1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S1x1024, .f32⟩
  | .hbm, ⟨62, _⟩ => ⟨S1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel5.lean ====
abbrev S16896x1024 : Shape := ⟨2, ![16896, 1024]⟩
abbrev S16384x512 : Shape := ⟨2, ![16384, 512]⟩
abbrev S8x9x1024 : Shape := ⟨3, ![8, 9, 1024]⟩
abbrev S1024x1024 : Shape := ⟨2, ![1024, 1024]⟩
abbrev S16384x1024 : Shape := ⟨2, ![16384, 1024]⟩
abbrev S256x1024 : Shape := ⟨2, ![256, 1024]⟩
abbrev S256x512 : Shape := ⟨2, ![256, 512]⟩
abbrev S1x9x1024 : Shape := ⟨3, ![1, 9, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16896x1024, .f32⟩
  | .hbm, ⟨1, _⟩ => ⟨S16384x512, .bf16⟩
  | .hbm, ⟨2, _⟩ => ⟨S16384x512, .bf16⟩
  | .hbm, ⟨3, _⟩ => ⟨S8x9x1024, .f32⟩
  | .hbm, ⟨4, _⟩ => ⟨S1024x1024, .f32⟩
  | .hbm, ⟨5, _⟩ => ⟨S1024x1024, .bf16⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x9x1024, .f32⟩
  | .local _ .vmem, ⟨7, _⟩ => ⟨S1x9x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32 : BitVec 32 := 33#32
  let v17 : BitVec 32 := Scalar.muli v16 c33_i32
  let c32_i32_4 : BitVec 32 := 32#32
  let c0_i32_5 : BitVec 32 := 0#32
  let v18 : BitVec 1 := Scalar.cmpi .eq c32_i32_4 c0_i32_5
  let c1_i32_6 : BitVec 32 := 1#32
  let v19 : BitVec 32 := Scalar.select v18 c1_i32_6 c32_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16896x1024 : Shape := ⟨2, ![16896, 1024]⟩
abbrev S16384x512 : Shape := ⟨2, ![16384, 512]⟩
abbrev S8x9x1024 : Shape := ⟨3, ![8, 9, 1024]⟩
abbrev S1024x1024 : Shape := ⟨2, ![1024, 1024]⟩
abbrev S2x8448x1024 : Shape := ⟨3, ![2, 8448, 1024]⟩
abbrev S2x8192x1024 : Shape := ⟨3, ![2, 8192, 1024]⟩
abbrev S2x8192x512 : Shape := ⟨3, ![2, 8192, 512]⟩
abbrev S2x1x1024 : Shape := ⟨3, ![2, 1, 1024]⟩
abbrev S2x1024 : Shape := ⟨2, ![2, 1024]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16384x512, .bf16⟩
  | .hbm, ⟨2, _⟩ => ⟨S16384x512, .bf16⟩
  | .hbm, ⟨3, _⟩ => ⟨S8x9x1024, .f32⟩
  | .hbm, ⟨4, _⟩ => ⟨S1024x1024, .f32⟩
  | .hbm, ⟨5, _⟩ => ⟨S2x8448x1024, .f32⟩
  | .hbm, ⟨6, _⟩ => ⟨S2x8192x1024, .f32⟩
  | .hbm, ⟨7, _⟩ => ⟨S16384x512, .f32⟩
  | .hbm, ⟨8, _⟩ => ⟨S2x8192x512, .f32⟩
  | .hbm, ⟨9, _⟩ => ⟨S16384x512, .f32⟩
  | .hbm, ⟨10, _⟩ => ⟨S2x8192x512, .f32⟩
  | .hbm, ⟨11, _⟩ => ⟨S2x8192x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S16384x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S16896x1024 : Shape := ⟨2, ![16896, 1024]⟩
abbrev S8x9x1024 : Shape := ⟨3, ![8, 9, 1024]⟩
abbrev S1024 : Shape := ⟨1, ![1024]⟩
abbrev S1024x3072 : Shape := ⟨2, ![1024, 3072]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x32x2 : Shape := ⟨3, ![8192, 32, 2]⟩
abbrev S8192x64 : Shape := ⟨2, ![8192, 64]⟩
abbrev S64 : Shape := ⟨1, ![64]⟩
abbrev S1x64 : Shape := ⟨2, ![1, 64]⟩
abbrev S256x64 : Shape := ⟨2, ![256, 64]⟩
abbrev S8448x64 : Shape := ⟨2, ![8448, 64]⟩
abbrev S8448x128 : Shape := ⟨2, ![8448, 128]⟩
abbrev S1x1024 : Shape := ⟨2, ![1, 1024]⟩
abbrev S16896x512 : Shape := ⟨2, ![16896, 512]⟩
abbrev S66x512x256 : Shape := ⟨3, ![66, 512, 256]⟩
abbrev S256x1024 : Shape := ⟨2, ![256, 1024]⟩
abbrev S1x9x1024 : Shape := ⟨3, ![1, 9, 1024]⟩
abbrev S256x128 : Shape := ⟨2, ![256, 128]⟩
abbrev S256x512 : Shape := ⟨2, ![256, 512]⟩
abbrev S1x512x256 : Shape := ⟨3, ![1, 512, 256]⟩
abbrev S1x1x1024 : Shape := ⟨3, ![1, 1, 1024]⟩
abbrev S256 : Shape := ⟨1, ![256]⟩
abbrev S256x1 : Shape := ⟨2, ![256, 1]⟩
abbrev S1024x512 : Shape := ⟨2, ![1024, 512]⟩
abbrev S512x256 : Shape := ⟨2, ![512, 256]⟩

abbrev nBuf : Space → Nat
  | .hbm => 130
  | .vmem => 24
  | .smem => 0
  | _ => 0

abbrev hbmTy0_0 (i : Nat) : BufTy := match i % 128 with
  | 0 => ⟨S16896x1024, .f32⟩
  | 1 => ⟨S8x9x1024, .f32⟩
  | 2 => ⟨S1024, .f32⟩
  | 3 => ⟨S1024x3072, .f32⟩
  | 4 => ⟨S1024x3072, .bf16⟩
  | 5 => ⟨S8192, .i32⟩
  | 6 => ⟨S_, .i32⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i1⟩
  | 14 => ⟨S8192, .i32⟩
  | 15 => ⟨S8192, .i32⟩
  | 16 => ⟨S_, .i32⟩
  | 17 => ⟨S8192, .i32⟩
  | 18 => ⟨S8192, .i1⟩
  | 19 => ⟨S8192, .i1⟩
  | 20 => ⟨S_, .i32⟩
  | 21 => ⟨S8192, .i32⟩
  | 22 => ⟨S8192, .i32⟩
  | 23 => ⟨S8192, .i32⟩
  | 24 => ⟨S8192, .f32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i1⟩
  | 39 => ⟨S_, .i32⟩
  | 40 => ⟨S_, .i1⟩
  | 41 => ⟨S8192, .i1⟩
  | 42 => ⟨S8192, .i1⟩
  | 43 => ⟨S8192, .i1⟩
  | 44 => ⟨S8192, .i32⟩
  | 45 => ⟨S8192, .i32⟩
  | 46 => ⟨S8192, .i32⟩
  | 47 => ⟨S8192, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S8192x1, .f32⟩
  | 57 => ⟨S1x16, .f32⟩
  | 58 => ⟨S8192x16, .f32⟩
  | 59 => ⟨S8192x16, .f32⟩
  | 60 => ⟨S8192x16, .f32⟩
  | 61 => ⟨S8192x1, .f32⟩
  | 62 => ⟨S1x16, .f32⟩
  | 63 => ⟨S8192x16, .f32⟩
  | 64 => ⟨S8192x16, .f32⟩
  | 65 => ⟨S8192x16, .f32⟩
  | 66 => ⟨S8192x32, .f32⟩
  | 67 => ⟨S8192x32, .f32⟩
  | 68 => ⟨S8192x32x2, .f32⟩
  | 69 => ⟨S8192x64, .f32⟩
  | 70 => ⟨S8192x32, .f32⟩
  | 71 => ⟨S8192x32x2, .f32⟩
  | 72 => ⟨S8192x64, .f32⟩
  | 73 => ⟨S64, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S64, .i32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i1⟩
  | 88 => ⟨S_, .i32⟩
  | 89 => ⟨S_, .i1⟩
  | 90 => ⟨S64, .i1⟩
  | 91 => ⟨S64, .i1⟩
  | 92 => ⟨S64, .i1⟩
  | 93 => ⟨S64, .i32⟩
  | 94 => ⟨S64, .i32⟩
  | 95 => ⟨S64, .i32⟩
  | 96 => ⟨S_, .i32⟩
  | 97 => ⟨S64, .i32⟩
  | 98 => ⟨S64, .i1⟩
  | 99 => ⟨S1x64, .i1⟩
  | 100 => ⟨S8192x64, .f32⟩
  | 101 => ⟨S_, .f32⟩
  | 102 => ⟨S_, .f32⟩
  | 103 => ⟨S8192x64, .i1⟩
  | 104 => ⟨S8192x64, .f32⟩
  | 105 => ⟨S8192x64, .f32⟩
  | 106 => ⟨S_, .f32⟩
  | 107 => ⟨S_, .f32⟩
  | 108 => ⟨S8192x64, .i1⟩
  | 109 => ⟨S8192x64, .f32⟩
  | 110 => ⟨S8192x64, .f32⟩
  | 111 => ⟨S_, .f32⟩
  | 112 => ⟨S256x64, .f32⟩
  | 113 => ⟨S8448x64, .f32⟩
  | 114 => ⟨S8448x128, .f32⟩
  | 115 => ⟨S_, .f32⟩
  | 116 => ⟨S256x64, .f32⟩
  | 117 => ⟨S8448x64, .f32⟩
  | 118 => ⟨S8448x128, .f32⟩
  | 119 => ⟨S_, .f32⟩
  | 120 => ⟨S256x64, .f32⟩
  | 121 => ⟨S8448x64, .f32⟩
  | 122 => ⟨S8448x128, .f32⟩
  | 123 => ⟨S1x1024, .f32⟩
  | 124 => ⟨S16896x512, .bf16⟩
  | 125 => ⟨S16896x512, .bf16⟩
  | 126 => ⟨S16896x512, .bf16⟩
  | 127 => ⟨S16896x512, .bf16⟩
  | _ => ⟨S16896x1024, .f32⟩

abbrev hbmTy0_1 (i : Nat) : BufTy := match i % 128 with
  | 0 => ⟨S16896x512, .bf16⟩
  | 1 => ⟨S66x512x256, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x3072, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S1x512x256, .bf16⟩
  | .local _ .vmem, ⟨23, _⟩ => ⟨S1x512x256, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_v9 : Ref sig .tc := ⟨.hbm, 52, rfl⟩
abbrev main_cst_1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_2 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v30 : Ref sig .tc := ⟨.hbm, 95, rfl⟩
abbrev main_c_3 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_4 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v35 : Ref sig .tc := ⟨.hbm, 105, rfl⟩
abbrev main_cst_5 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_cst_6 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_7 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_8 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47_0 : Ref sig .tc := ⟨.hbm, 124, rfl⟩
abbrev main_v47_1 : Ref sig .tc := ⟨.hbm, 125, rfl⟩
abbrev main_v47_2 : Ref sig .tc := ⟨.hbm, 126, rfl⟩
abbrev main_v47_3 : Ref sig .tc := ⟨.hbm, 127, rfl⟩
abbrev main_v47_4 : Ref sig .tc := ⟨.hbm, 128, rfl⟩
abbrev main_v47_5 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .eq v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c2_i32 : BitVec 32 := 2#32
  let v28 : BitVec 32 := Scalar.select v10 c2_i32 v27
  let c0_i32_10 : BitVec 32 := 0#32
  let c0_i32_11 : BitVec 32 := 0#32
  let c0_i32_12 : BitVec 32 := 0#32
  ![v28.toNat, c0_i32_10.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c32_i32 : BitVec 32 := 32#32
  let v27 : BitVec 1 := Scalar.cmpi .eq v26 c32_i32
  let c64_i32 : BitVec 32 := 64#32
  let v28 : BitVec 32 := Scalar.addi c64_i32 v16
  let c32_i32_10 : BitVec 32 := 32#32
  let v29 : BitVec 32 := Scalar.muli v16 c32_i32_10
  let v30 : BitVec 32 := Scalar.addi v29 v26
  let v31 : BitVec 32 := Scalar.select v27 v28 v30
  let c0_i32_11 : BitVec 32 := 0#32
  let c0_i32_12 : BitVec 32 := 0#32
  ![v31.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c32_i32 : BitVec 32 := 32#32
  let v27 : BitVec 1 := Scalar.cmpi .eq v26 c32_i32
  let c64_i32 : BitVec 32 := 64#32
  let v28 : BitVec 32 := Scalar.addi c64_i32 v16
  let c32_i32_10 : BitVec 32 := 32#32
  let v29 : BitVec 32 := Scalar.muli v16 c32_i32_10
  let v30 : BitVec 32 := Scalar.addi v29 v26
  let v31 : BitVec 32 := Scalar.select v27 v28 v30
  let c0_i32_11 : BitVec 32 := 0#32
  let c0_i32_12 : BitVec 32 := 0#32
  ![v31.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S16896x1024 : Shape := ⟨2, ![16896, 1024]⟩
abbrev S8x9x1024 : Shape := ⟨3, ![8, 9, 1024]⟩
abbrev S1024 : Shape := ⟨1, ![1024]⟩
abbrev S1024x3072 : Shape := ⟨2, ![1024, 3072]⟩
abbrev S2x8448x1024 : Shape := ⟨3, ![2, 8448, 1024]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S2x256x1024 : Shape := ⟨3, ![2, 256, 1024]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x1x32 : Shape := ⟨3, ![8192, 1, 32]⟩
abbrev S2x8192x3072 : Shape := ⟨3, ![2, 8192, 3072]⟩
abbrev S2x256x3072 : Shape := ⟨3, ![2, 256, 3072]⟩
abbrev S2x8192x512 : Shape := ⟨3, ![2, 8192, 512]⟩
abbrev S2x256x512 : Shape := ⟨3, ![2, 256, 512]⟩
abbrev S2x8448x512 : Shape := ⟨3, ![2, 8448, 512]⟩
abbrev S66x256x512 : Shape := ⟨3, ![66, 256, 512]⟩
abbrev S66x512x256 : Shape := ⟨3, ![66, 512, 256]⟩
abbrev S16384x512 : Shape := ⟨2, ![16384, 512]⟩
abbrev S512x512 : Shape := ⟨2, ![512, 512]⟩
abbrev S16896x512 : Shape := ⟨2, ![16896, 512]⟩
abbrev S2x8192x8x32x2 : Shape := ⟨5, ![2, 8192, 8, 32, 2]⟩
abbrev S2x8192x8x32x1 : Shape := ⟨5, ![2, 8192, 8, 32, 1]⟩
abbrev S2x8192x8x32 : Shape := ⟨4, ![2, 8192, 8, 32]⟩
abbrev S1x8192x1x32 : Shape := ⟨4, ![1, 8192, 1, 32]⟩

abbrev nBuf : Space → Nat
  | .hbm => 208
  | .vmem => 0
  | .smem => 0
  | _ => 0

abbrev hbmTy0_0 (i : Nat) : BufTy := match i % 128 with
  | 0 => ⟨S16896x1024, .f32⟩
  | 1 => ⟨S8x9x1024, .f32⟩
  | 2 => ⟨S1024, .f32⟩
  | 3 => ⟨S1024x3072, .f32⟩
  | 4 => ⟨S2x8448x1024, .f32⟩
  | 5 => ⟨S2x8448x1024, .f32⟩
  | 6 => ⟨S_, .f32⟩
  | 7 => ⟨S2x8448, .f32⟩
  | 8 => ⟨S2x8448x1, .f32⟩
  | 9 => ⟨S_, .f32⟩
  | 10 => ⟨S2x8448x1, .f32⟩
  | 11 => ⟨S2x8448x1, .f32⟩
  | 12 => ⟨S_, .f32⟩
  | 13 => ⟨S2x8448x1, .f32⟩
  | 14 => ⟨S2x8448x1, .f32⟩
  | 15 => ⟨S2x8448x1, .f32⟩
  | 16 => ⟨S2x8448x1024, .f32⟩
  | 17 => ⟨S2x8448x1024, .f32⟩
  | 18 => ⟨S1x1x1024, .f32⟩
  | 19 => ⟨S2x8448x1024, .f32⟩
  | 20 => ⟨S2x8448x1024, .f32⟩
  | 21 => ⟨S2x8192x1024, .f32⟩
  | 22 => ⟨S2x1x1024, .f32⟩
  | 23 => ⟨S2x1024, .f32⟩
  | 24 => ⟨S2x1x1024, .f32⟩
  | 25 => ⟨S_, .f32⟩
  | 26 => ⟨S2x1x1024, .f32⟩
  | 27 => ⟨S2x1x1024, .f32⟩
  | 28 => ⟨S2x8192x1024, .f32⟩
  | 29 => ⟨S2x8192x1024, .f32⟩
  | 30 => ⟨S2x1x1024, .f32⟩
  | 31 => ⟨S2x1024, .f32⟩
  | 32 => ⟨S2x1x1024, .f32⟩
  | 33 => ⟨S2x8192x1024, .f32⟩
  | 34 => ⟨S2x8192x1024, .f32⟩
  | 35 => ⟨S2x256x1024, .f32⟩
  | 36 => ⟨S1x1x1024, .f32⟩
  | 37 => ⟨S1024, .f32⟩
  | 38 => ⟨S_, .f32⟩
  | 39 => ⟨S1024, .f32⟩
  | 40 => ⟨S1024, .f32⟩
  | 41 => ⟨S1x1x1024, .f32⟩
  | 42 => ⟨S2x256x1024, .f32⟩
  | 43 => ⟨S2x256x1024, .f32⟩
  | 44 => ⟨S1x1x1024, .f32⟩
  | 45 => ⟨S1024, .f32⟩
  | 46 => ⟨S1x1x1024, .f32⟩
  | 47 => ⟨S2x256x1024, .f32⟩
  | 48 => ⟨S2x256x1024, .f32⟩
  | 49 => ⟨S8192, .i32⟩
  | 50 => ⟨S_, .i32⟩
  | 51 => ⟨S_, .i32⟩
  | 52 => ⟨S8192, .i32⟩
  | 53 => ⟨S8192, .i32⟩
  | 54 => ⟨S8192, .i32⟩
  | 55 => ⟨S_, .i32⟩
  | 56 => ⟨S8192, .i32⟩
  | 57 => ⟨S8192, .i1⟩
  | 58 => ⟨S8192, .i32⟩
  | 59 => ⟨S8192, .i32⟩
  | 60 => ⟨S_, .i32⟩
  | 61 => ⟨S8192, .i32⟩
  | 62 => ⟨S8192, .i1⟩
  | 63 => ⟨S8192, .i1⟩
  | 64 => ⟨S_, .i32⟩
  | 65 => ⟨S8192, .i32⟩
  | 66 => ⟨S8192, .i32⟩
  | 67 => ⟨S8192, .i32⟩
  | 68 => ⟨S8192, .f32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i1⟩
  | 83 => ⟨S_, .i32⟩
  | 84 => ⟨S_, .i1⟩
  | 85 => ⟨S8192, .i1⟩
  | 86 => ⟨S8192, .i1⟩
  | 87 => ⟨S8192, .i1⟩
  | 88 => ⟨S8192, .i32⟩
  | 89 => ⟨S8192, .i32⟩
  | 90 => ⟨S8192, .i32⟩
  | 91 => ⟨S8192, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S8192x1, .f32⟩
  | 101 => ⟨S1x16, .f32⟩
  | 102 => ⟨S8192x16, .f32⟩
  | 103 => ⟨S8192x16, .f32⟩
  | 104 => ⟨S8192x16, .f32⟩
  | 105 => ⟨S8192x1, .f32⟩
  | 106 => ⟨S1x16, .f32⟩
  | 107 => ⟨S8192x16, .f32⟩
  | 108 => ⟨S8192x16, .f32⟩
  | 109 => ⟨S8192x16, .f32⟩
  | 110 => ⟨S8192x32, .f32⟩
  | 111 => ⟨S8192x32, .f32⟩
  | 112 => ⟨S8192x1x32, .f32⟩
  | 113 => ⟨S8192x32, .f32⟩
  | 114 => ⟨S8192x1x32, .f32⟩
  | 115 => ⟨S2x8192x3072, .f32⟩
  | 116 => ⟨S2x256x3072, .f32⟩
  | 117 => ⟨S2x8192x512, .f32⟩
  | 118 => ⟨S2x8192x512, .f32⟩
  | 119 => ⟨S2x8192x512, .f32⟩
  | 120 => ⟨S2x8192x512, .f32⟩
  | 121 => ⟨S2x8192x512, .f32⟩
  | 122 => ⟨S2x8192x512, .f32⟩
  | 123 => ⟨S2x256x512, .f32⟩
  | 124 => ⟨S2x256x512, .f32⟩
  | 125 => ⟨S2x256x512, .f32⟩
  | 126 => ⟨S2x256x512, .f32⟩
  | 127 => ⟨S2x256x512, .f32⟩
  | _ => ⟨S16896x1024, .f32⟩

abbrev hbmTy0_1 (i : Nat) : BufTy := match i % 128 with
  | 0 => ⟨S2x256x512, .f32⟩
  | 1 => ⟨S2x8448x512, .f32⟩
  | 2 => ⟨S66x256x512, .f32⟩
  | 3 => ⟨S66x512x256, .f32⟩
  | 4 => ⟨S66x512x256, .bf16⟩
  | 5 => ⟨S_, .f32⟩
  | 6 => ⟨S2x8192x512, .f32⟩
  | 7 => ⟨S2x8192x512, .f32⟩
  | 8 => ⟨S16384x512, .f32⟩
  | 9 => ⟨S_, .f32⟩
  | 10 => ⟨S2x256x512, .f32⟩
  | 11 => ⟨S2x256x512, .f32⟩
  | 12 => ⟨S512x512, .f32⟩
  | 13 => ⟨S16896x512, .f32⟩
  | 14 => ⟨S16896x512, .bf16⟩
  | 15 => ⟨S2x8448x512, .f32⟩
  | 16 => ⟨S16896x512, .f32⟩
  | 17 => ⟨S16896x512, .bf16⟩
  | 18 => ⟨S2x8448x512, .f32⟩
  | 19 => ⟨S16896x512, .f32⟩
  | 20 => ⟨S16896x512, .bf16⟩
  | 21 => ⟨S2x8192x8x32x2, .f32⟩
  | 22 => ⟨S2x8192x8x32x1, .f32⟩
  | 23 => ⟨S2x8192x8x32, .f32⟩
  | 24 => ⟨S2x8192x8x32x1, .f32⟩
  | 25 => ⟨S2x8192x8x32, .f32⟩
  | 26 => ⟨S1x8192x1x32, .f32⟩
  | 27 => ⟨S2x8192x8x32, .f32⟩
  | 28 => ⟨S2x8192x8x32, .f32⟩
  | 29 => ⟨S1x8192x1x32, .f32⟩
  | 30 => ⟨S2x8192x8x32, .f32⟩
  | 31 => ⟨S2x8192x8x32, .f32⟩
  | 32 => ⟨S2x8192x8x32, .f32⟩
  | 33 => ⟨S1x8192x1x32, .f32⟩
  | 34 => ⟨S2x8192x8x32, .f32⟩
  | 35 => ⟨S2x8192x8x32, .f32⟩
  | 36 => ⟨S1x8192x1x32, .f32⟩
  | 37 => ⟨S2x8192x8x32, .f32⟩
  | 38 => ⟨S2x8192x8x32, .f32⟩
  | 39 => ⟨S2x8192x8x32, .f32⟩
  | 40 => ⟨S2x8192x8x32x1, .f32⟩
  | 41 => ⟨S2x8192x8x32x1, .f32⟩
  | 42 => ⟨S2x8192x8x32x2, .f32⟩
  | 43 => ⟨S2x8192x512, .f32⟩
  | 44 => ⟨S_, .f32⟩
  | 45 => ⟨S2x8192x512, .f32⟩
  | 46 => ⟨S2x8192x512, .f32⟩
  | 47 => ⟨S16384x512, .f32⟩
  | 48 => ⟨S_, .f32⟩
  | 49 => ⟨S2x256x512, .f32⟩
  | 50 => ⟨S2x256x512, .f32⟩
  | 51 => ⟨S512x512, .f32⟩
  | 52 => ⟨S16896x512, .f32⟩
  | 53 => ⟨S16896x512, .bf16⟩
  | 54 => ⟨S2x8192x8x32x2, .f32⟩
  | 55 => ⟨S2x8192x8x32x1, .f32⟩
  | 56 => ⟨S2x8192x8x32, .f32⟩
  | 57 => ⟨S2x8192x8x32x1, .f32⟩
  | 58 => ⟨S2x8192x8x32, .f32⟩
  | 59 => ⟨S1x8192x1x32, .f32⟩
  | 60 => ⟨S2x8192x8x32, .f32⟩
  | 61 => ⟨S2x8192x8x32, .f32⟩
  | 62 => ⟨S1x8192x1x32, .f32⟩
  | 63 => ⟨S2x8192x8x32, .f32⟩
  | 64 => ⟨S2x8192x8x32, .f32⟩
  | 65 => ⟨S2x8192x8x32, .f32⟩
  | 66 => ⟨S1x8192x1x32, .f32⟩
  | 67 => ⟨S2x8192x8x32, .f32⟩
  | 68 => ⟨S2x8192x8x32, .f32⟩
  | 69 => ⟨S1x8192x1x32, .f32⟩
  | 70 => ⟨S2x8192x8x32, .f32⟩
  | 71 => ⟨S2x8192x8x32, .f32⟩
  | 72 => ⟨S2x8192x8x32, .f32⟩
  | 73 => ⟨S2x8192x8x32x1, .f32⟩
  | 74 => ⟨S2x8192x8x32x1, .f32⟩
  | 75 => ⟨S2x8192x8x32x2, .f32⟩
  | 76 => ⟨S2x8192x512, .f32⟩
  | 77 => ⟨S2x8448x512, .f32⟩
  | 78 => ⟨S16896x512, .f32⟩
  | 79 => ⟨S16896x512, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v41 : Ref sig .tc := ⟨.hbm, 67, rfl⟩
abbrev main_v42 : Ref sig .tc := ⟨.hbm, 68, rfl⟩
abbrev main_c_4 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_1 : Ref sig .tc := ⟨.hbm, 77, rfl⟩
abbrev main_call1_v5 : Ref sig .tc := ⟨.hbm, 78, rfl⟩
abbrev main_call1_v6 : Ref sig .tc := ⟨.hbm, 79, rfl⟩
abbrev main_call1_c_2 : Ref sig .tc := ⟨.hbm, 80, rfl⟩
abbrev main_call1_v7 : Ref sig .tc := ⟨.hbm, 81, rfl⟩
abbrev main_call1_v8 : Ref sig .tc := ⟨.hbm, 82, rfl⟩
abbrev main_call1_c_3 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_5 : Ref sig .tc := ⟨.hbm, 94, rfl⟩
abbrev main_v47 : Ref sig .tc := ⟨.hbm, 95, rfl⟩
abbrev main_v48 : Ref sig .tc := ⟨.hbm, 96, rfl⟩
abbrev main_cst_6 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_7 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_8 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_9 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_10 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩

abbrev nD : Nat := 1
abbrev τ : Topo := Topo.v7x

variable {F : FTy → Type} [FloatOps F]
-- ==== Kernel7.lean ====
abbrev S2x1024 : Shape := ⟨2, ![2, 1024]⟩
abbrev S1024 : Shape := ⟨1, ![1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x9216 : Shape := ⟨3, ![2, 1, 9216]⟩
abbrev S2x8x9216 : Shape := ⟨3, ![2, 8, 9216]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x9216, .f32⟩
  | .hbm, ⟨9, _⟩ => ⟨S2x8x9216, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x1024 : Shape := ⟨2, ![2, 1024]⟩
abbrev S1024 : Shape := ⟨1, ![1024]⟩
abbrev S2x1024x9216 : Shape := ⟨3, ![2, 1024, 9216]⟩
abbrev S2x9216 : Shape := ⟨2, ![2, 9216]⟩
abbrev S1x1024x9216 : Shape := ⟨3, ![1, 1024, 9216]⟩
abbrev S1024x9216 : Shape := ⟨2, ![1024, 9216]⟩
abbrev S1x9216 : Shape := ⟨2, ![1, 9216]⟩
abbrev S9216 : Shape := ⟨1, ![9216]⟩
abbrev S_ : Shape := ⟨0, ![]⟩
abbrev S5x9216 : Shape := ⟨2, ![5, 9216]⟩
abbrev S8x9216 : Shape := ⟨2, ![8, 9216]⟩
abbrev S1x8x9216 : Shape := ⟨3, ![1, 8, 9216]⟩
abbrev S2x8x9216 : Shape := ⟨3, ![2, 8, 9216]⟩

abbrev nBuf : Space → Nat
  | .hbm => 69
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024x9216, .f32⟩
  | .hbm, ⟨5, _⟩ => ⟨S1024x9216, .f32⟩
  | .hbm, ⟨6, _⟩ => ⟨S1x9216, .f32⟩
  | .hbm, ⟨7, _⟩ => ⟨S9216, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x9216, .f32⟩
  | .hbm, ⟨18, _⟩ => ⟨S1x9216, .f32⟩
  | .hbm, ⟨19, _⟩ => ⟨S2x9216, .f32⟩
  | .hbm, ⟨20, _⟩ => ⟨S2x9216, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S9216, .f32⟩
  | .hbm, ⟨31, _⟩ => ⟨S9216, .f32⟩
  | .hbm, ⟨32, _⟩ => ⟨S1x9216, .f32⟩
  | .hbm, ⟨33, _⟩ => ⟨S5x9216, .f32⟩
  | .hbm, ⟨34, _⟩ => ⟨S8x9216, .f32⟩
  | .hbm, ⟨35, _⟩ => ⟨S1x1024x9216, .f32⟩
  | .hbm, ⟨36, _⟩ => ⟨S1024x9216, .f32⟩
  | .hbm, ⟨37, _⟩ => ⟨S1x9216, .f32⟩
  | .hbm, ⟨38, _⟩ => ⟨S9216, .f32⟩
  | .hbm, ⟨39, _⟩ => ⟨S2x1024, .f32⟩
  | .hbm, ⟨40, _⟩ => ⟨S2x1024, .f32⟩
  | .hbm, ⟨41, _⟩ => ⟨S_, .f32⟩
  | .hbm, ⟨42, _⟩ => ⟨S2x1024, .f32⟩
  | .hbm, ⟨43, _⟩ => ⟨S2x1024, .f32⟩
  | .hbm, ⟨44, _⟩ => ⟨S_, .f32⟩
  | .hbm, ⟨45, _⟩ => ⟨S2x1024, .f32⟩
  | .hbm, ⟨46, _⟩ => ⟨S2x1024, .f32⟩
  | .hbm, ⟨47, _⟩ => ⟨S2x1024, .f32⟩
  | .hbm, ⟨48, _⟩ => ⟨S2x9216, .f32⟩
  | .hbm, ⟨49, _⟩ => ⟨S1x9216, .f32⟩
  | .hbm, ⟨50, _⟩ => ⟨S2x9216, .f32⟩
  | .hbm, ⟨51, _⟩ => ⟨S2x9216, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S9216, .f32⟩
  | .hbm, ⟨62, _⟩ => ⟨S9216, .f32⟩
  | .hbm, ⟨63, _⟩ => ⟨S1x9216, .f32⟩
  | .hbm, ⟨64, _⟩ => ⟨S5x9216, .f32⟩
  | .hbm, ⟨65, _⟩ => ⟨S8x9216, .f32⟩
  | .hbm, ⟨66, _⟩ => ⟨S1x8x9216, .f32⟩
  | .hbm, ⟨67, _⟩ => ⟨S1x8x9216, .f32⟩
  | .hbm, ⟨68, _⟩ => ⟨S2x8x9216, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proof.FfnPay.lean ====
module

public import proofs.«01_k».proof.Proof.Gen.Kernel2Ideal.Value
public import Idealize.ShloMosaic.Lib.Pointwise
public import Idealize.ShloMosaic.Lib.Pipeline.ValueKit

@[expose] public section

/-! The feed-forward block: its mathematics, and what the kernel's body computes at one element. -/

set_option maxRecDepth 16384

noncomputable section

namespace Cert.Ffn

open Idealize.ShloMosaic Cert.Kernel2Ideal Cert.Kernel2Ideal.Gen

/-- A row normalised by its root mean square, scaled by the gain and modulated. -/
def modulated (x g shift scale : Fin 1024 → EReal) (j : Fin 1024) : EReal :=
  x j * Ideal.rsqrt (Ideal.div (∑ k, x k * x k) (Ideal.ofBits .f32 0x44800000#32) + Ideal.ofBits .f32 0x358637BD#32)
    * g j * (1 + scale j) + shift j

/-- `z` times its logistic. -/
def silu (z : EReal) : EReal := z * Ideal.div 1 (1 + Ideal.exp (-z))

/-- A hidden unit of the gated layer. -/
def hidden (n g u : Fin 1024 → EReal) : EReal := silu (∑ k, n k * g k) * ∑ k, n k * u k

/-- The block's result: the row plus half the gate times the projected hidden units. -/
def block (x gate n : Fin 1024 → EReal) (wg wu : Fin 1024 → Fin 2816 → EReal) (wd : Fin 2816 → Fin 1024 → EReal) (j : Fin 1024) : EReal :=
  x j + Ideal.ofBits .f32 0x3F000000#32 * gate j * ∑ f, hidden n (wg · f) (wu · f) * wd f j

variable (x : FVec Ideal S512x1024 .f32) (sh sc ga : FVec Ideal S1x1x1024 .f32) (g : FVec Ideal S1x1024 .f32) (r : Fin 512) (j : Fin 1024)

/-- The modulated row. -/
theorem pay3_apply : k0_pay3 (F := Ideal) x sh sc g (ix2 r j)
    = modulated (fun k => x (ix2 r k)) (fun k => g (ix2 0 k)) (fun k => sh (ix3 0 0 k)) (fun k => sc (ix3 0 0 k)) j := by
  unfold modulated
  pointwise [k0_pay3]

variable (n : FVec Ideal S512x1024 .bf16) (wg wu wd wg' wu' wd' : FVec Ideal S1024x1024 .bf16)

/-- A projection of the first chunk. -/
theorem pay4_apply : k0_pay4 (F := Ideal) x sh sc g wg (ix2 r j) = ∑ k : Fin 1024, k0_pay3 (F := Ideal) x sh sc g (ix2 r k) * wg (ix2 k j) := by
  unfold k0_pay4
  generalize k0_pay3 (F := Ideal) x sh sc g = n
  pointwise []

/-- The other projection of the first chunk. -/
theorem pay5_apply : k0_pay5 (F := Ideal) x sh sc g wg (ix2 r j) = ∑ k : Fin 1024, k0_pay3 (F := Ideal) x sh sc g (ix2 r k) * wg (ix2 k j) := by
  unfold k0_pay5
  generalize k0_pay3 (F := Ideal) x sh sc g = n
  pointwise []

/-- The first two chunks projected back. -/
theorem pay7_apply (hg hu : FVec Ideal S512x1024 .f32) : k0_pay7 (F := Ideal) n hg hu k0_pay6 wd wg' wu' wd' (ix2 r j)
    = (∑ f : Fin 1024, silu (hg (ix2 r f)) * hu (ix2 r f) * wd (ix2 f j))
      + ∑ f : Fin 1024, hidden (fun k => n (ix2 r k)) (fun k => wg' (ix2 k f)) (fun k => wu' (ix2 k f)) * wd' (ix2 f j) := by
  unfold hidden silu
  pointwise [k0_pay7, k0_pay6]
  simp only [zero_sub]

variable (wg3 wu3 : FVec Ideal S1024x768 .bf16) (wd3 : FVec Ideal S768x1024 .bf16) (y : FVec Ideal S512x1024 .f32)

/-- The third chunk projected back, the gate and the residual. -/
theorem pay1_apply : k0_pay1 (F := Ideal) x (k0_pay2 ga) n y (k0_pay8 n wg3) (k0_pay9 wu3) (constant S512x768 .f32 0x00000000#32) wd3 (ix2 r j)
    = x (ix2 r j) + Ideal.ofBits .f32 0x3F000000#32 * ga (ix3 0 0 j) * (y (ix2 r j)
      + ∑ f : Fin 768, hidden (fun k => n (ix2 r k)) (fun k => wg3 (ix2 k f)) (fun k => wu3 (ix2 k f)) * wd3 (ix2 f j)) := by
  unfold hidden silu
  pointwise [k0_pay1, k0_pay2, k0_pay8, k0_pay9]
  simp only [zero_sub]

end Cert.Ffn

end
-- ==== Proof.FfnRef.lean ====
module

public import proofs.«01_k».proof.Proof.FfnPay
public import proofs.«01_k».proof.Proof.Gen.Reference2Ideal.Read

@[expose] public section

/-! The feed-forward reference, one step at a time, at one element. -/

set_option maxRecDepth 16384

noncomputable section

namespace Cert.Ffn

open Idealize.ShloMosaic Cert.Reference2Ideal Cert.Reference2Ideal.Read

variable (x : FVec Ideal S16384x1024 .f32) (mods : FVec Ideal S8x9x1024 .f32) (g : FVec Ideal S1024 .f32)
  (wg wu : FVec Ideal S1024x2816 .f32) (wd : FVec Ideal S2816x1024 .f32) (b : Fin 2) (i : Fin 8192) (j : Fin 1024)

/-- Row `i` of batch `b` of the input. -/
abbrev rowOf (k : Fin 1024) : EReal := x (ix2 ⟨b.val * 8192 + i.val, by omega⟩ k)
/-- Modulation vector `e` of batch `b`. -/
abbrev modOf (e : Fin 9) (k : Fin 1024) : EReal := mods (ix3 ⟨b.val, by omega⟩ e k)

/-- The modulated row of the reference. -/
theorem v28_eq : val_main_v28 (F := Ideal) x mods g (ix3 b i j)
    = modulated (rowOf x b i) (fun k => g (ix1 k)) (modOf mods b 6) (modOf mods b 7) j := by
  unfold modulated
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v6, val_main_v5, val_main_v4, val_main_v3, val_main_v2, val_main_v1, val_main_v0, val_main_cst, val_main_cst_0, val_main_cst_1, val_main_cst_2]

/-- A hidden unit of the reference. -/
theorem v32_eq (f : Fin 2816) : val_main_v32 (F := Ideal) x mods g wg wu (ix3 b i f)
    = hidden (fun k => val_main_v28 (F := Ideal) x mods g (ix3 b i k)) (fun k => wg (ix2 k f)) (fun k => wu (ix2 k f)) := by
  unfold hidden silu val_main_v32 val_main_v30 val_main_call0_v5 val_main_call0_v3 val_main_call0_v1 val_main_call0_v0 val_main_v29 val_main_v31
  generalize val_main_v28 (F := Ideal) x mods g = n
  pointwise [val_main_call0_v2, val_main_call0_v4, val_main_call0_cst, val_main_call0_cst_0]

/-- The reference's result before its rows are laid out flat. -/
theorem v38_eq : val_main_v38 (F := Ideal) x mods g wg wu wd (ix3 b i j)
    = block (rowOf x b i) (modOf mods b 8) (modulated (rowOf x b i) (fun k => g (ix1 k)) (modOf mods b 6) (modOf mods b 7))
        (fun k f => wg (ix2 k f)) (fun k f => wu (ix2 k f)) (fun f k => wd (ix2 f k)) j := by
  have h : val_main_v38 (F := Ideal) x mods g wg wu wd (ix3 b i j)
      = rowOf x b i j + Ideal.ofBits .f32 0x3F000000#32 * modOf mods b 8 j
        * ∑ f : Fin 2816, val_main_v32 (F := Ideal) x mods g wg wu (ix3 b i f) * wd (ix2 f j) := by
    unfold val_main_v38 val_main_v37 val_main_v33
    generalize val_main_v32 (F := Ideal) x mods g wg wu = a
    pointwise [val_main_v36, val_main_v35, val_main_v34, val_main_v9, val_main_v8, val_main_v7, val_main_v0, val_main_cst_3]
  rw [h]
  simp only [v32_eq, v28_eq, block]

/-- The reference's result: row `r` is row `r % 8192` of batch `r / 8192`. -/
theorem v39_eq (r : Fin 16384) : val_main_v39 (F := Ideal) x mods g wg wu wd (ix2 r j)
    = val_main_v38 (F := Ideal) x mods g wg wu wd (ix3 ⟨r.val / 8192, by omega⟩ ⟨r.val % 8192, by omega⟩ j) := by
  rw [val_main_v39_apply]
  refine congrArg _ (funext fun a => ?_)
  match a with
  | ⟨0, _⟩ => exact Fin.ext (by show _ = r.val / 8192; simp [idx_main_v39]; omega)
  | ⟨1, _⟩ => exact Fin.ext (by show _ = r.val % 8192; simp [idx_main_v39]; omega)
  | ⟨2, _⟩ => exact Fin.ext (by show _ = j.val; simp [idx_main_v39])

end Cert.Ffn

end
-- ==== Proof.FfnValue.lean ====
module

public import proofs.«01_k».proof.Proof.FfnPay
public import proofs.«01_k».proof.Proof.FfnRef
public import Idealize.ShloMosaic.Lib.Pipeline.ValueKit
public import Idealize.ShloMosaic.Lib.Claim

@[expose] public section

/-! The feed-forward block's result array is the reference's, on every input. -/

set_option maxRecDepth 16384

noncomputable section

namespace Cert.Ffn

open Idealize.ShloMosaic Cert.Kernel2Ideal Cert.Kernel2Ideal.Gen
open Idealize.ShloMosaic.TcCoe Idealize.SL.Sem

/-- A sum over the hidden width is the sum of its three chunks. -/
theorem sum_chunks (f : Fin 2816 → EReal) :
    ∑ x, f x = (∑ d : Fin 1024, f ⟨d.val, by omega⟩) + (∑ d : Fin 1024, f ⟨1024 + d.val, by omega⟩) + ∑ d : Fin 768, f ⟨2048 + d.val, by omega⟩ :=
  (Fin.sum_univ_add (a := 2048) (b := 768) f).trans
    (congrArg (· + _) (Fin.sum_univ_add (a := 1024) (b := 1024) fun x : Fin 2048 => f ⟨x.val, by omega⟩))

variable {x : Vec Ideal S512x1024 .f32} {mods : Vec Ideal S1x9x1024 .f32} {g : Vec Ideal S1x1024 .f32}
  {wg wu : Vec Ideal S1024x2816 .bf16} {wd : Vec Ideal S2816x1024 .bf16}

/-- Modulation row 6. -/
theorem ld_mod6 (k : Fin 1024) : View.ld (Val := Elt Ideal) (e' := .f32) mods r0_1 (ix3 0 0 k) = mods (ix3 0 6 k) :=
  View.ld_unit_apply_of _ _ _ _ _ _ fun a => by match a with | ⟨0, _⟩ => rfl | ⟨1, _⟩ => rfl | ⟨2, _⟩ => exact (Nat.zero_add _).symm

/-- Modulation row 7. -/
theorem ld_mod7 (k : Fin 1024) : View.ld (Val := Elt Ideal) (e' := .f32) mods r0_2 (ix3 0 0 k) = mods (ix3 0 7 k) :=
  View.ld_unit_apply_of _ _ _ _ _ _ fun a => by match a with | ⟨0, _⟩ => rfl | ⟨1, _⟩ => rfl | ⟨2, _⟩ => exact (Nat.zero_add _).symm

/-- Modulation row 8. -/
theorem ld_mod8 (k : Fin 1024) : View.ld (Val := Elt Ideal) (e' := .f32) mods r0_3 (ix3 0 0 k) = mods (ix3 0 8 k) :=
  View.ld_unit_apply_of _ _ _ _ _ _ fun a => by match a with | ⟨0, _⟩ => rfl | ⟨1, _⟩ => rfl | ⟨2, _⟩ => exact (Nat.zero_add _).symm

/-- Columns 0 on of a gate or up projection. -/
theorem ld_cols0 (k : Fin 1024) (f : Fin 1024) : View.ld (Val := Elt Ideal) (e' := .bf16) wg r0_5 (ix2 k f) = wg (ix2 k ⟨f.val, by omega⟩) :=
  View.ld_unit_apply_of _ _ _ _ _ _ fun a => by match a with | ⟨0, _⟩ => exact (Nat.zero_add _).symm | ⟨1, _⟩ => exact (Nat.zero_add _).symm

/-- Columns 1024 on of a gate or up projection. -/
theorem ld_cols1024 (k : Fin 1024) (f : Fin 1024) : View.ld (Val := Elt Ideal) (e' := .bf16) wg r0_7 (ix2 k f) = wg (ix2 k ⟨1024 + f.val, by omega⟩) :=
  View.ld_unit_apply_of _ _ _ _ _ _ fun a => by match a with | ⟨0, _⟩ => exact (Nat.zero_add _).symm | ⟨1, _⟩ => rfl

/-- Columns 2048 on of a gate or up projection. -/
theorem ld_cols2048 (k : Fin 1024) (f : Fin 768) : View.ld (Val := Elt Ideal) (e' := .bf16) wg r0_9 (ix2 k f) = wg (ix2 k ⟨2048 + f.val, by omega⟩) :=
  View.ld_unit_apply_of _ _ _ _ _ _ fun a => by match a with | ⟨0, _⟩ => exact (Nat.zero_add _).symm | ⟨1, _⟩ => rfl

/-- Rows 0 on of the down projection. -/
theorem ld_rows0 (k : Fin 1024) (f : Fin 1024) : View.ld (Val := Elt Ideal) (e' := .bf16) wd r0_6 (ix2 f k) = wd (ix2 ⟨f.val, by omega⟩ k) :=
  View.ld_unit_apply_of _ _ _ _ _ _ fun a => by match a with | ⟨0, _⟩ => exact (Nat.zero_add _).symm | ⟨1, _⟩ => exact (Nat.zero_add _).symm

/-- Rows 1024 on of the down projection. -/
theorem ld_rows1024 (k : Fin 1024) (f : Fin 1024) : View.ld (Val := Elt Ideal) (e' := .bf16) wd r0_8 (ix2 f k) = wd (ix2 ⟨1024 + f.val, by omega⟩ k) :=
  View.ld_unit_apply_of _ _ _ _ _ _ fun a => by match a with | ⟨0, _⟩ => rfl | ⟨1, _⟩ => exact (Nat.zero_add _).symm

/-- Rows 2048 on of the down projection. -/
theorem ld_rows2048 (k : Fin 1024) (f : Fin 768) : View.ld (Val := Elt Ideal) (e' := .bf16) wd r0_10 (ix2 f k) = wd (ix2 ⟨2048 + f.val, by omega⟩ k) :=
  View.ld_unit_apply_of _ _ _ _ _ _ fun a => by match a with | ⟨0, _⟩ => rfl | ⟨1, _⟩ => exact (Nat.zero_add _).symm

/-- The modulated row, from the body's blocks. -/
theorem row_apply (r : Fin 512) (j : Fin 1024) : k0_pay3 (F := Ideal) x (View.ld mods r0_1) (View.ld mods r0_2) g (ix2 r j)
    = modulated (fun k => x (ix2 r k)) (fun k => g (ix2 0 k)) (fun k => mods (ix3 0 6 k)) (fun k => mods (ix3 0 7 k)) j := by
  refine (pay3_apply _ _ _ _ r j).trans ?_
  exact congrArg₂ (fun a b => modulated _ _ a b j) (funext ld_mod6) (funext ld_mod7)

/-- The modulated row of the later chunks is that of the first. -/
theorem pay10_eq : k0_pay10 (F := Ideal) x mods g wg wu wd = k0_pay3 (F := Ideal) x (View.ld mods r0_1) (View.ld mods r0_2) g := by
  unfold k0_pay10
  rw [View.ld_unit_lit _ x (by decide), View.ld_unit_lit _ g (by decide)]

/-- A term of the projection back depends on its parts alone. -/
theorem term_congr {n g g' u u' : Fin 1024 → EReal} {w w' : EReal} (hg : g = g') (hu : u = u') (hw : w = w') :
    hidden n g u * w = hidden n g' u' * w' := by subst hg hu hw; rfl

/-- What the body leaves at one element, from its six blocks. -/
theorem out_apply (r : Fin 512) (j : Fin 1024) :
    out0_6 (F := Ideal) x mods g wg wu wd (ix2 r j)
      = block (fun k => x (ix2 r k)) (fun k => mods (ix3 0 8 k))
          (modulated (fun k => x (ix2 r k)) (fun k => g (ix2 0 k)) (fun k => mods (ix3 0 6 k)) (fun k => mods (ix3 0 7 k)))
          (fun k f => wg (ix2 k f)) (fun k f => wu (ix2 k f)) (fun f k => wd (ix2 f k)) j := by
  frame_out
  refine (pay1_apply _ _ _ _ _ _ _ _ _).trans ?_
  rw [pay7_apply, pay10_eq]
  simp only [pay4_apply, pay5_apply, row_apply]
  unfold block
  rw [sum_chunks]
  exact congrArg₂ (fun a b => x (ix2 r j) + Ideal.ofBits .f32 0x3F000000#32 * a * b) (ld_mod8 j) (congrArg₂ (· + ·)
    (congrArg₂ (· + ·)
      (Finset.sum_congr rfl fun f _ => term_congr (funext fun k => ld_cols0 k f) (funext fun k => ld_cols0 k f) (ld_rows0 j f))
      (Finset.sum_congr rfl fun f _ => term_congr (funext fun k => ld_cols1024 k f) (funext fun k => ld_cols1024 k f) (ld_rows1024 j f)))
    (Finset.sum_congr rfl fun f _ => term_congr (funext fun k => ld_cols2048 k f) (funext fun k => ld_cols2048 k f) (ld_rows2048 j f)))

/-- Which blocks grid point `t` reads and writes: its rows, and the modulation of its batch. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![t.val, 0] ∧ t.val < 32 :=
  (by decide +kernel : ∀ t : Fin grid0.N, _)

variable (m : (ℓ : Loc nD τ sig) → Buf (Elt Ideal) ℓ) (c : Dev nD) (t : Fin cfg0.N)

/-- The six arguments. -/
abbrev X : FVec Ideal S16384x1024 .f32 := m ((c : Thread nD τ).loc main_arg0)
abbrev M : FVec Ideal S8x9x1024 .f32 := m ((c : Thread nD τ).loc main_arg1)
abbrev G : FVec Ideal S1024 .f32 := m ((c : Thread nD τ).loc main_arg2)
abbrev Wg : FVec Ideal S1024x2816 .f32 := m ((c : Thread nD τ).loc main_arg3)
abbrev Wu : FVec Ideal S1024x2816 .f32 := m ((c : Thread nD τ).loc main_arg4)
abbrev Wd : FVec Ideal S2816x1024 .f32 := m ((c : Thread nD τ).loc main_arg5)

/-- The block of rows. -/
theorem blk0 (j : Fin 512) (k : Fin 1024) (r : Fin 16384) (hr : r.val = t.val * 512 + j.val) : iblk m c 0 t (ix2 j k) = X m c (ix2 r k) := by
  blk_ext [iblk, V, idx t]

/-- The block of modulation vectors. -/
theorem blk1 (e : Fin 9) (k : Fin 1024) (b : Fin 8) (hb : b.val = t.val / 16) : iblk m c 1 t (ix3 0 e k) = M m c (ix3 b e k) := by
  blk_ext [iblk, V, idx t]

/-- The gain. -/
theorem blk2 (k : Fin 1024) : iblk m c 2 t (ix2 0 k) = G m c (ix1 k) := by
  blk_ext! [iblk, idx t]

/-- The gate projection. -/
theorem blk3 (k : Fin 1024) (f : Fin 2816) : iblk m c 3 t (ix2 k f) = Wg m c (ix2 k f) := by
  blk_ext! [iblk, idx t]

/-- The up projection. -/
theorem blk4 (k : Fin 1024) (f : Fin 2816) : iblk m c 4 t (ix2 k f) = Wu m c (ix2 k f) := by
  blk_ext! [iblk, idx t]

/-- The down projection. -/
theorem blk5 (f : Fin 2816) (k : Fin 1024) : iblk m c 5 t (ix2 f k) = Wd m c (ix2 f k) := by
  blk_ext! [iblk, idx t]

/-- The block depends on its parts alone. -/
theorem block_congr {x x' gate gate' n n' : Fin 1024 → EReal} {wg wg' wu wu' : Fin 1024 → Fin 2816 → EReal} {wd wd' : Fin 2816 → Fin 1024 → EReal}
    (hx : x = x') (hgate : gate = gate') (hn : n = n') (hg : wg = wg') (hu : wu = wu') (hd : wd = wd') (j : Fin 1024) :
    block x gate n wg wu wd j = block x' gate' n' wg' wu' wd' j := by subst hx hgate hn hg hu hd; rfl

/-- The modulated row depends on its parts alone. -/
theorem modulated_congr {x x' g g' a a' b b' : Fin 1024 → EReal} (hx : x = x') (hg : g = g') (ha : a = a') (hb : b = b') :
    modulated x g a b = modulated x' g' a' b' := by subst hx hg ha hb; rfl

/-- The result array is the reference's. -/
theorem final : (dats m 0 c).arrAt 6 (cfgs 0).N
    = Cert.Reference2Ideal.Read.val_main_v39 (F := Ideal) (X m c) (M m c) (G m c) (Wg m c) (Wu m c) (Wd m c) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, funext fun a => by match a with | ⟨0, _⟩ => rfl | ⟨1, _⟩ => rfl⟩
  have ht : t.val < 32 := (idx t).2.2.2.2.2.2.2
  refine (out_apply r j).trans ?_
  have hy : ((cfg0.win 6).blk t).view.emb (ix2 r j) = ix2 (⟨t.val * 512 + r.val, by omega⟩ : Fin 16384) j := by
    blk_ext [idx t]
  rw [hy]
  refine Eq.trans ?_ ((v39_eq (X m c) (M m c) (G m c) (Wg m c) (Wu m c) (Wd m c) j _).trans (v38_eq _ _ _ _ _ _ _ _ _)).symm
  have hx : (fun k => iblk m c 0 t (ix2 r k)) = rowOf (X m c) ⟨(t.val * 512 + r.val) / 8192, by omega⟩ ⟨(t.val * 512 + r.val) % 8192, by omega⟩ :=
    funext fun k => blk0 m c t r k _ (by show (t.val * 512 + r.val) / 8192 * 8192 + (t.val * 512 + r.val) % 8192 = _; omega)
  have hm : ∀ e : Fin 9, (fun k => iblk m c 1 t (ix3 0 e k)) = modOf (M m c) ⟨(t.val * 512 + r.val) / 8192, by omega⟩ e :=
    fun e => funext fun k => blk1 m c t e k _ (by show (t.val * 512 + r.val) / 8192 = t.val / 16; omega)
  exact block_congr hx (hm 8) (modulated_congr hx (funext fun k => blk2 m c t k) (hm 6) (hm 7))
    (funext fun k => funext fun f => blk3 m c t k f) (funext fun k => funext fun f => blk4 m c t k f) (funext fun f => funext fun k => blk5 m c t f k) j

end Cert.Ffn

end
-- ==== Proof.FfnFinal.lean ====
module

public import proofs.«01_k».proof.Proof.FfnValue
public import proofs.«01_k».proof.Proof.Gen.Kernel3Ideal.Value
public import proofs.«01_k».proof.Proof.Gen.Reference3Ideal.Read

@[expose] public section

/-! The last feed-forward block, with the final norm: its result array is the reference's, on every input. -/

set_option maxRecDepth 16384

noncomputable section

namespace Cert.FfnFinal

open Idealize.ShloMosaic Cert.Kernel3Ideal Cert.Kernel3Ideal.Gen
open Idealize.ShloMosaic.TcCoe Idealize.SL.Sem

/-- A row normalised by its root mean square and scaled by the gain. -/
def normed (o g : Fin 1024 → EReal) (j : Fin 1024) : EReal :=
  o j * Ideal.rsqrt (Ideal.div (∑ k, o k * o k) (Ideal.ofBits .f32 0x44800000#32) + Ideal.ofBits .f32 0x358637BD#32) * g j

/-- The last store is the norm of what the block without the norm stores. -/
theorem pay1_eq (x y : FVec Ideal S512x1024 .f32) (ga : FVec Ideal S1x1024 .f32) (n : FVec Ideal S512x1024 .bf16) (h c : FVec Ideal S512x768 .f32)
    (w : FVec Ideal S1024x768 .bf16) (wd : FVec Ideal S768x1024 .bf16) (fg : FVec Ideal S1x1024 .f32) (r : Fin 512) (j : Fin 1024) :
    k0_pay1 (F := Ideal) x ga n y h w c wd fg (ix2 r j)
      = normed (fun k => Cert.Kernel2Ideal.Gen.k0_pay1 (F := Ideal) x ga n y h w c wd (ix2 r k)) (fun k => fg (ix2 0 k)) j := by
  unfold normed
  pointwise [k0_pay1, Cert.Kernel2Ideal.Gen.k0_pay1]

/-- What the body leaves at one element is the norm of what the block without the norm leaves in that row. -/
theorem out_apply (x : Vec Ideal S512x1024 .f32) (mods : Vec Ideal S1x9x1024 .f32) (g fg : Vec Ideal S1x1024 .f32)
    (wg wu : Vec Ideal S1024x2816 .bf16) (wd : Vec Ideal S2816x1024 .bf16) (r : Fin 512) (j : Fin 1024) :
    out0_7 (F := Ideal) x mods g wg wu wd fg (ix2 r j)
      = normed (fun k => Cert.Kernel2Ideal.Gen.out0_6 (F := Ideal) x mods g wg wu wd (ix2 r k)) (fun k => fg (ix2 0 k)) j := by
  frame_out
  refine (pay1_eq _ _ _ _ _ _ _ _ _ _ _).trans (congrArg₂ (fun a b => normed a b j) (funext fun k => Eq.symm ?_) (funext fun k => ?_))
  · rfl
  · rfl

/-- Which blocks grid point `t` reads and writes: its rows, and the modulation of its batch. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ t.val < 32 :=
  (by decide +kernel : ∀ t : Fin grid0.N, _)

variable (m : (ℓ : Loc nD τ sig) → Buf (Elt Ideal) ℓ) (c : Dev nD) (t : Fin cfg0.N)

/-- The seven arguments. -/
abbrev X : FVec Ideal S16384x1024 .f32 := m ((c : Thread nD τ).loc main_arg0)
abbrev M : FVec Ideal S8x9x1024 .f32 := m ((c : Thread nD τ).loc main_arg1)
abbrev G : FVec Ideal S1024 .f32 := m ((c : Thread nD τ).loc main_arg2)
abbrev Wg : FVec Ideal S1024x2816 .f32 := m ((c : Thread nD τ).loc main_arg3)
abbrev Wu : FVec Ideal S1024x2816 .f32 := m ((c : Thread nD τ).loc main_arg4)
abbrev Wd : FVec Ideal S2816x1024 .f32 := m ((c : Thread nD τ).loc main_arg5)
abbrev Fg : FVec Ideal S1024 .f32 := m ((c : Thread nD τ).loc main_arg6)

/-- The block of rows. -/
theorem blk0 (j : Fin 512) (k : Fin 1024) (r : Fin 16384) (hr : r.val = t.val * 512 + j.val) : iblk m c 0 t (ix2 j k) = X m c (ix2 r k) := by
  blk_ext [iblk, V, idx t]

/-- The block of modulation vectors. -/
theorem blk1 (e : Fin 9) (k : Fin 1024) (b : Fin 8) (hb : b.val = t.val / 16) : iblk m c 1 t (ix3 0 e k) = M m c (ix3 b e k) := by
  blk_ext [iblk, V, idx t]

/-- The gain. -/
theorem blk2 (k : Fin 1024) : iblk m c 2 t (ix2 0 k) = G m c (ix1 k) := by
  blk_ext! [iblk, idx t]

/-- The gate projection. -/
theorem blk3 (k : Fin 1024) (f : Fin 2816) : iblk m c 3 t (ix2 k f) = Wg m c (ix2 k f) := by
  blk_ext! [iblk, idx t]

/-- The up projection. -/
theorem blk4 (k : Fin 1024) (f : Fin 2816) : iblk m c 4 t (ix2 k f) = Wu m c (ix2 k f) := by
  blk_ext! [iblk, idx t]

/-- The down projection. -/
theorem blk5 (f : Fin 2816) (k : Fin 1024) : iblk m c 5 t (ix2 f k) = Wd m c (ix2 f k) := by
  blk_ext! [iblk, idx t]

/-- The final gain. -/
theorem blk6 (k : Fin 1024) : iblk m c 6 t (ix2 0 k) = Fg m c (ix1 k) := by
  blk_ext! [iblk, idx t]

section Reference

open Cert.Reference3Ideal.Read

variable (x : FVec Ideal S16384x1024 .f32) (mods : FVec Ideal S8x9x1024 .f32) (g fg : FVec Ideal S1024 .f32)
  (wg wu : FVec Ideal S1024x2816 .f32) (wd : FVec Ideal S2816x1024 .f32)

/-- Before the final norm the reference is that of the block without it. -/
theorem v38_eq : val_main_v38 (F := Ideal) x mods g wg wu wd = Cert.Reference2Ideal.Read.val_main_v38 (F := Ideal) x mods g wg wu wd := rfl

/-- The final norm of the reference. -/
theorem v51_eq (b : Fin 2) (i : Fin 8192) (j : Fin 1024) : val_main_v51 (F := Ideal) x mods g wg wu wd fg (ix3 b i j)
    = normed (fun k => val_main_v38 (F := Ideal) x mods g wg wu wd (ix3 b i k)) (fun k => fg (ix1 k)) j := by
  unfold normed val_main_v51 val_main_v48 val_main_v47 val_main_v46 val_main_v45 val_main_v43 val_main_v41 val_main_v40 val_main_v39
  generalize val_main_v38 (F := Ideal) x mods g wg wu wd = o
  pointwise [val_main_v50, val_main_v49, val_main_v44, val_main_v42, val_main_cst_4, val_main_cst_5, val_main_cst_6]

/-- The reference's result: row `r` is row `r % 8192` of batch `r / 8192`. -/
theorem v52_eq (r : Fin 16384) (j : Fin 1024) : val_main_v52 (F := Ideal) x mods g wg wu wd fg (ix2 r j)
    = val_main_v51 (F := Ideal) x mods g wg wu wd fg (ix3 ⟨r.val / 8192, by omega⟩ ⟨r.val % 8192, by omega⟩ j) := by
  rw [val_main_v52_apply]
  refine congrArg _ (funext fun a => ?_)
  match a with
  | ⟨0, _⟩ => exact Fin.ext (by show _ = r.val / 8192; simp [idx_main_v52]; omega)
  | ⟨1, _⟩ => exact Fin.ext (by show _ = r.val % 8192; simp [idx_main_v52]; omega)
  | ⟨2, _⟩ => exact Fin.ext (by show _ = j.val; simp [idx_main_v52])

end Reference

/-- The result array is the reference's. -/
theorem final : (dats m 0 c).arrAt 7 (cfgs 0).N
    = Cert.Reference3Ideal.Read.val_main_v52 (F := Ideal) (X m c) (M m c) (G m c) (Wg m c) (Wu m c) (Wd m c) (Fg m c) := by
  refine (dats m 0 c).arrAt_eq_of_covers 7 _ (by decide +kernel) fun t _ y => ?_
  blk_simp
  rw [after0_7]
  obtain ⟨r, j, rfl⟩ : ∃ (r : Fin 512) (j : Fin 1024), y = ix2 r j := ⟨y 0, y 1, funext fun a => by match a with | ⟨0, _⟩ => rfl | ⟨1, _⟩ => rfl⟩
  have ht : t.val < 32 := (idx t).2.2.2.2.2.2.2.2
  refine (out_apply _ _ _ _ _ _ _ r j).trans ?_
  have hy : ((cfg0.win 7).blk t).view.emb (ix2 r j) = ix2 (⟨t.val * 512 + r.val, by omega⟩ : Fin 16384) j := by
    blk_ext [idx t]
  rw [hy]
  refine Eq.trans ?_ ((v52_eq (X m c) (M m c) (G m c) (Fg m c) (Wg m c) (Wu m c) (Wd m c) _ j).trans (v51_eq _ _ _ _ _ _ _ _ _ _)).symm
  have hx : (fun k => iblk m c 0 t (ix2 r k)) = Cert.Ffn.rowOf (X m c) ⟨(t.val * 512 + r.val) / 8192, by omega⟩ ⟨(t.val * 512 + r.val) % 8192, by omega⟩ :=
    funext fun k => blk0 m c t r k _ (by show (t.val * 512 + r.val) / 8192 * 8192 + (t.val * 512 + r.val) % 8192 = _; omega)
  have hm : ∀ e : Fin 9, (fun k => iblk m c 1 t (ix3 0 e k)) = Cert.Ffn.modOf (M m c) ⟨(t.val * 512 + r.val) / 8192, by omega⟩ e :=
    fun e => funext fun k => blk1 m c t e k _ (by show (t.val * 512 + r.val) / 8192 = t.val / 16; omega)
  refine congrArg₂ (fun a b => normed a b j) (funext fun k => ?_) (funext fun k => blk6 m c t k)
  rw [v38_eq]
  refine (Cert.Ffn.out_apply r k).trans (Eq.trans ?_ (Cert.Ffn.v38_eq _ _ _ _ _ _ _ _ _).symm)
  exact Cert.Ffn.block_congr hx (hm 8) (Cert.Ffn.modulated_congr hx (funext fun k => blk2 m c t k) (hm 6) (hm 7))
    (funext fun k => funext fun f => blk3 m c t k f) (funext fun k => funext fun f => blk4 m c t k f) (funext fun f => funext fun k => blk5 m c t f k) k

end Cert.FfnFinal

end
-- ==== Proof.ConvPay.lean ====
module

public import proofs.«01_k».proof.Proof.Gen.Kernel4Ideal.Value
public import proofs.«01_k».proof.Proof.FfnPay
public import Idealize.ShloMosaic.Lib.Pointwise
public import Idealize.ShloMosaic.Lib.KernelVsHost
public import Idealize.ShloMosaic.Lib.Pipeline.ValueKit

@[expose] public section

/-! The convolution mixer: its mathematics, and what the kernel's body computes at one element. -/

set_option maxRecDepth 16384

noncomputable section

namespace Cert.Conv

open Idealize.ShloMosaic Cert.Kernel4Ideal Cert.Kernel4Ideal.Gen
open Cert.Ffn (modulated)

/-- A row of the convolution's input: the product of the second and the third projection of the modulated row. -/
def unit (n : Fin 1024 → EReal) (wc wh : Fin 1024 → Fin 1024 → EReal) (k : Fin 1024) : EReal := (∑ l, n l * wc l k) * ∑ l, n l * wh l k

/-- The convolution of width 3 at one position, from the rows before, at and after it. -/
def conv (p u q : Fin 1024 → EReal) (cw : Fin 3 → Fin 1024 → EReal) (k : Fin 1024) : EReal := p k * cw 0 k + u k * cw 1 k + q k * cw 2 k

/-- The mixer's result: the row plus the gate times the projected product of the first projection and the convolution. -/
def mixer (x gate n v : Fin 1024 → EReal) (wb wo : Fin 1024 → Fin 1024 → EReal) (j : Fin 1024) : EReal :=
  x j + gate j * ∑ k, (∑ l, n l * wb l k) * v k * wo k j

/-- A row of the convolution's input in tile `t`, zero beyond an end of the sequence. -/
def masked (t : Fin 32) (n : Fin 528 → Fin 1024 → EReal) (wc wh : Fin 1024 → Fin 1024 → EReal) (s : Fin 528) (k : Fin 1024) : EReal :=
  if (t.val % 16 = 0 ∧ s.val < 8) ∨ (t.val % 16 = 15 ∧ 520 ≤ s.val) then 0 else unit (n s) wc wh k

/-- What a tile's body leaves at row `r`, from the rows it works on. -/
def body (t : Fin 32) (r : Fin 512) (x : Fin 1024 → EReal) (z : Fin 528 → Fin 1024 → EReal) (g sh sc ga : Fin 1024 → EReal)
    (wb wc wh : Fin 1024 → Fin 1024 → EReal) (cw : Fin 3 → Fin 1024 → EReal) (wo : Fin 1024 → Fin 1024 → EReal) (j : Fin 1024) : EReal :=
  mixer x ga (modulated (z ⟨8 + r.val, by omega⟩) g sh sc)
    (conv (masked t (fun s => modulated (z s) g sh sc) wc wh ⟨7 + r.val, by omega⟩) (masked t (fun s => modulated (z s) g sh sc) wc wh ⟨8 + r.val, by omega⟩)
      (masked t (fun s => modulated (z s) g sh sc) wc wh ⟨9 + r.val, by omega⟩) cw) wb wo j

/-- The body's result depends on its parts alone. -/
theorem body_congr (t : Fin 32) (r : Fin 512) {x x' : Fin 1024 → EReal} {z z' : Fin 528 → Fin 1024 → EReal} {g g' sh sh' sc sc' ga ga' : Fin 1024 → EReal}
    {wb wb' wc wc' wh wh' : Fin 1024 → Fin 1024 → EReal} {cw cw' : Fin 3 → Fin 1024 → EReal} {wo wo' : Fin 1024 → Fin 1024 → EReal} (j : Fin 1024)
    (hx : x = x') (hz : z = z') (hg : g = g') (hsh : sh = sh') (hsc : sc = sc') (hga : ga = ga') (hb : wb = wb') (hc : wc = wc') (hh : wh = wh')
    (hcw : cw = cw') (hwo : wo = wo') : body t r x z g sh sc ga wb wc wh cw wo j = body t r x' z' g' sh' sc' ga' wb' wc' wh' cw' wo' j := by
  subst hx hz hg hsh hsc hga hb hc hh hcw hwo; rfl

variable (x : FVec Ideal S512x1024 .f32) (p q : FVec Ideal S8x1024 .f32) (g : FVec Ideal S1x1024 .f32) (sh sc ga : FVec Ideal S1x1x1024 .f32)

/-- Row `s` of the rows that the body works on: eight rows before its own, its own, eight rows after. -/
def rows (s : Fin 528) (k : Fin 1024) : EReal :=
  if h : s.val < 8 then p (ix2 ⟨s.val, h⟩ k)
  else if h' : s.val - 8 < 512 then x (ix2 ⟨s.val - 8, h'⟩ k)
  else q (ix2 ⟨s.val - 8 - 512, by omega⟩ k)

/-- The joined rows at one element. -/
theorem joined_apply (s : Fin 528) (k : Fin 1024) :
    concatenate S528x1024 0 [⟨S8x1024, p⟩, ⟨S512x1024, x⟩, ⟨S8x1024, q⟩] concatenates_S8x1024_S512x1024_S8x1024_S528x1024_d0 (ix2 s k)
      = rows x p q s k := by
  unfold rows
  pointwise []

/-- The modulated rows at one element. -/
theorem pay2_apply (s : Fin 528) (j : Fin 1024) : k0_pay2 (F := Ideal) x p q g sh sc (ix2 s j)
    = modulated (rows x p q s) (fun k => g (ix2 0 k)) (fun k => sh (ix3 0 0 k)) (fun k => sc (ix3 0 0 k)) j := by
  have e : rows x p q s = fun k => concatenate S528x1024 0 [⟨S8x1024, p⟩, ⟨S512x1024, x⟩, ⟨S8x1024, q⟩]
    concatenates_S8x1024_S512x1024_S8x1024_S528x1024_d0 (ix2 s k) := funext fun k => (joined_apply x p q s k).symm
  rw [e]
  unfold k0_pay2 modulated
  generalize concatenate S528x1024 0 [⟨S8x1024, p⟩, ⟨S512x1024, x⟩, ⟨S8x1024, q⟩] concatenates_S8x1024_S512x1024_S8x1024_S528x1024_d0 = z
  pointwise []

variable (w : FVec Ideal S1024x1024 .bf16)

/-- The second projection. -/
theorem pay3_apply (s : Fin 528) (j : Fin 1024) : k0_pay3 (F := Ideal) x p q g sh sc w (ix2 s j)
    = ∑ k : Fin 1024, k0_pay2 (F := Ideal) x p q g sh sc (ix2 s k) * w (ix2 k j) := by
  unfold k0_pay3
  generalize k0_pay2 (F := Ideal) x p q g sh sc = n
  pointwise []

/-- The third projection. -/
theorem pay4_apply (s : Fin 528) (j : Fin 1024) : k0_pay4 (F := Ideal) x p q g sh sc w (ix2 s j)
    = ∑ k : Fin 1024, k0_pay2 (F := Ideal) x p q g sh sc (ix2 s k) * w (ix2 k j) := by
  unfold k0_pay4
  generalize k0_pay2 (F := Ideal) x p q g sh sc = n
  pointwise []

variable (c h u : FVec Ideal S528x1024 .f32)

/-- The number of a tile in its sequence, as the body computes it. -/
def tile (a : BitVec 32) : BitVec 32 :=
  Scalar.select
    (Scalar.andi
      (Scalar.xori
        (Scalar.cmpi .slt (Scalar.remsi a (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi a (Scalar.select (Scalar.cmpi .eq 16#32 0#32) 1#32 16#32)) 0#32))
    (Scalar.addi (Scalar.remsi a (Scalar.select (Scalar.cmpi .eq 16#32 0#32) 1#32 16#32)) (Scalar.select (Scalar.cmpi .eq 16#32 0#32) 1#32 16#32))
    (Scalar.remsi a (Scalar.select (Scalar.cmpi .eq 16#32 0#32) 1#32 16#32))

/-- Whether a tile is the first of its sequence. -/
theorem first_eq : ∀ t : Fin 32, Scalar.cmpi .eq (tile (BitVec.ofNat 32 t.val)) 0#32 = if t.val % 16 = 0 then 1#1 else 0#1 := by decide +kernel

/-- Whether a tile is the last of its sequence. -/
theorem last_eq : ∀ t : Fin 32, Scalar.cmpi .eq (tile (BitVec.ofNat 32 t.val)) 15#32 = if t.val % 16 = 15 then 1#1 else 0#1 := by decide +kernel

/-- Whether a row lies before the tile. -/
theorem low_eq : ∀ s : Fin 528, IntOp.cmpi .slt (BitVec.ofNat 32 s.val) 8#32 = if s.val < 8 then 1#1 else 0#1 := by decide +kernel

/-- Whether a row lies after the tile. -/
theorem high_eq : ∀ s : Fin 528, IntOp.cmpi .sge (BitVec.ofNat 32 s.val) 520#32 = if 520 ≤ s.val then 1#1 else 0#1 := by decide +kernel

/-- A choice by two conjunctions of bits. -/
theorem select_bits (a b c d : Prop) [Decidable a] [Decidable b] [Decidable c] [Decidable d] (y : EReal) :
    Scalar.select (IntOp.ori (IntOp.andi (if a then 1#1 else 0#1) (if b then 1#1 else 0#1)) (IntOp.andi (if c then 1#1 else 0#1) (if d then 1#1 else 0#1)))
      0 y = if (a ∧ b) ∨ (c ∧ d) then 0 else y := by
  by_cases ha : a <;> by_cases hb : b <;> by_cases hc : c <;> by_cases hd : d <;>
    simp [ha, hb, hc, hd, Scalar.select, IntOp.ori, IntOp.andi]

/-- The product of both projections, zero at the rows beyond an end of the sequence. -/
theorem pay5_apply (t : Fin 32) (s : Fin 528) (j : Fin 1024) : k0_pay5 (F := Ideal) (BitVec.ofNat 32 t.val) c h (ix2 s j)
    = if (t.val % 16 = 0 ∧ s.val < 8) ∨ (t.val % 16 = 15 ∧ 520 ≤ s.val) then 0 else c (ix2 s j) * h (ix2 s j) := by
  rw [← select_bits, ← first_eq, ← last_eq, ← low_eq, ← high_eq]
  unfold tile
  pointwise [k0_pay5]

/-- The row before. -/
theorem pay6_apply (a : BitVec 32) (r : Fin 512) (j : Fin 1024) : k0_pay6 (F := Ideal) a c h (ix2 r j)
    = k0_pay5 (F := Ideal) a c h (ix2 ⟨7 + r.val, by omega⟩ j) := by
  unfold k0_pay6
  generalize k0_pay5 (F := Ideal) a c h = u
  refine (extractStridedSlice_apply ![8, 0] _ _ (ix2 r j) (ix2 (⟨8 + r.val, by omega⟩ : Fin 528) j) fun a => ?_).trans
    (dynamicRotate_apply _ _ _ _ _ (ix2 (⟨7 + r.val, by omega⟩ : Fin 528) j) fun b => ?_)
  · match a with
    | ⟨0, _⟩ => rfl
    | ⟨1, _⟩ => exact (Nat.zero_add _).symm
  · match b with
    | ⟨0, _⟩ => show 7 + r.val = (8 + r.val + 528 - 1) % 528; omega
    | ⟨1, _⟩ => rfl

/-- The row after. -/
theorem next_apply (r : Fin 512) (j : Fin 1024) :
    extractStridedSlice S512x1024 ![8, 0] (dynamicRotate 0 527#32 none u rotates_S528x1024_d0) slices_S528x1024_o8_0_S512x1024 (ix2 r j)
      = u (ix2 ⟨9 + r.val, by omega⟩ j) := by
  refine (extractStridedSlice_apply ![8, 0] _ _ (ix2 r j) (ix2 (⟨8 + r.val, by omega⟩ : Fin 528) j) fun a => ?_).trans
    (dynamicRotate_apply _ _ _ _ _ (ix2 (⟨9 + r.val, by omega⟩ : Fin 528) j) fun b => ?_)
  · match a with
    | ⟨0, _⟩ => rfl
    | ⟨1, _⟩ => exact (Nat.zero_add _).symm
  · match b with
    | ⟨0, _⟩ => show 9 + r.val = (8 + r.val + 528 - 527) % 528; omega
    | ⟨1, _⟩ => rfl

variable (n : FVec Ideal S528x1024 .bf16) (cw : FVec Ideal S3x1024 .f32) (before : FVec Ideal S512x1024 .f32) (wb wo : FVec Ideal S1024x1024 .bf16)

/-- The body's payload at one element. -/
theorem pay1_apply (r : Fin 512) (j : Fin 1024) : k0_pay1 (F := Ideal) x n u cw before wb wo ga (ix2 r j)
    = x (ix2 r j) + ga (ix3 0 0 j) * ∑ k : Fin 1024, (∑ l : Fin 1024, n (ix2 ⟨8 + r.val, by omega⟩ l) * wb (ix2 l k))
      * conv (fun k => before (ix2 r k)) (fun k => u (ix2 ⟨8 + r.val, by omega⟩ k)) (fun k => u (ix2 ⟨9 + r.val, by omega⟩ k)) (fun e k => cw (ix2 e k)) k
      * wo (ix2 k j) := by
  unfold conv
  simp only [← next_apply]
  unfold k0_pay1
  generalize dynamicRotate 0 527#32 none u rotates_S528x1024_d0 = z
  pointwise []

/-- The body's payload at one element, from what it loads. -/
theorem body_apply (t : Fin 32) (wc wh : FVec Ideal S1024x1024 .bf16) (r : Fin 512) (j : Fin 1024) :
    k0_pay1 (F := Ideal) x (k0_pay2 x p q g sh sc) (k0_pay5 (BitVec.ofNat 32 t.val) (k0_pay3 x p q g sh sc wc) (k0_pay4 x p q g sh sc wh)) cw
        (k0_pay6 (BitVec.ofNat 32 t.val) (k0_pay3 x p q g sh sc wc) (k0_pay4 x p q g sh sc wh)) wb wo ga (ix2 r j)
      = body t r (fun k => x (ix2 r k)) (rows x p q) (fun k => g (ix2 0 k)) (fun k => sh (ix3 0 0 k)) (fun k => sc (ix3 0 0 k)) (fun k => ga (ix3 0 0 k))
          (fun l k => wb (ix2 l k)) (fun l k => wc (ix2 l k)) (fun l k => wh (ix2 l k)) (fun e k => cw (ix2 e k)) (fun k j => wo (ix2 k j)) j := by
  rw [pay1_apply]
  simp only [pay6_apply, pay5_apply, pay3_apply, pay4_apply, pay2_apply]
  rfl

end Cert.Conv

end
-- ==== Proof.ConvRef.lean ====
module

public import proofs.«01_k».proof.Proof.Gen.Reference4Ideal.Read
public import proofs.«01_k».proof.Proof.ConvPay

@[expose] public section

/-! The convolution mixer: what its reference computes at one element. -/

set_option maxRecDepth 16384

noncomputable section

namespace Cert.Conv

open Idealize.ShloMosaic Cert.Reference4Ideal Cert.Reference4Ideal.Read
open Cert.Ffn (modulated)

variable (x : FVec Ideal S16384x1024 .f32) (mods : FVec Ideal S8x9x1024 .f32) (g : FVec Ideal S1024 .f32)
  (w : FVec Ideal S1024x3072 .f32) (cw : FVec Ideal S3x1024 .f32) (wo : FVec Ideal S1024x1024 .f32) (b : Fin 2) (i : Fin 8192) (j : Fin 1024)

/-- Row `i` of batch `b` of the input. -/
abbrev rowOf (k : Fin 1024) : EReal := x (ix2 ⟨b.val * 8192 + i.val, by omega⟩ k)
/-- Modulation vector `e` of batch `b`. -/
abbrev modOf (e : Fin 9) (k : Fin 1024) : EReal := mods (ix3 ⟨b.val, by omega⟩ e k)
/-- The modulated row `i` of batch `b`. -/
abbrev normOf : Fin 1024 → EReal := modulated (rowOf x b i) (fun k => g (ix1 k)) (modOf mods b 3) (modOf mods b 4)
/-- Row `i` of the convolution's input in batch `b`. -/
abbrev unitOf : Fin 1024 → EReal := unit (normOf x mods g b i) (fun l k => w (ix2 l ⟨1024 + k.val, by omega⟩)) (fun l k => w (ix2 l ⟨2048 + k.val, by omega⟩))

/-- The modulated row of the reference. -/
theorem v28_eq : val_main_v28 (F := Ideal) x mods g (ix3 b i j) = normOf x mods g b i j := by
  unfold normOf modulated
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v6, val_main_v5, val_main_v4, val_main_v3, val_main_v2, val_main_v1, val_main_v0, val_main_cst, val_main_cst_0, val_main_cst_1, val_main_cst_2]

/-- The convolution's input of the reference. -/
theorem v33_eq : val_main_v33 (F := Ideal) x mods g w (ix3 b i j) = unitOf x mods g w b i j := by
  have h : val_main_v33 (F := Ideal) x mods g w (ix3 b i j) = unit (fun k => val_main_v28 (F := Ideal) x mods g (ix3 b i k))
      (fun l k => w (ix2 l ⟨1024 + k.val, by omega⟩)) (fun l k => w (ix2 l ⟨2048 + k.val, by omega⟩)) j := by
    unfold unit val_main_v33 val_main_v31 val_main_v32 val_main_v29
    generalize val_main_v28 (F := Ideal) x mods g = n
    pointwise []
  rw [h]
  simp only [v28_eq]

/-- The padded rows inside. -/
theorem v34_inside (e : Fin 8194) (i : Fin 8192) (h : e.val = 1 + i.val) : val_main_v34 (F := Ideal) x mods g w (ix3 b e j) = unitOf x mods g w b i j := by
  rw [← v33_eq]
  unfold val_main_v34
  refine pad_apply_of_inside _ _ _ _ _ _ _ _ (ix3 b i j) fun a => ?_
  match a with
  | ⟨0, _⟩ => show b.val = 0 + b.val * 1; omega
  | ⟨1, _⟩ => show e.val = 1 + i.val * 1; omega
  | ⟨2, _⟩ => show j.val = 0 + j.val * 1; omega

/-- The padded rows beyond both ends. -/
theorem v34_outside (e : Fin 8194) (h : e.val = 0 ∨ e.val = 8193) : val_main_v34 (F := Ideal) x mods g w (ix3 b e j) = 0 := by
  unfold val_main_v34
  refine (pad_apply_of_not_inside _ _ _ _ _ _ _ _ (1 : Fin 3) ?_).trans ?_
  · show ¬(1 ≤ e.val ∧ (e.val - 1) % (0 + 1) = 0 ∧ (e.val - 1) / (0 + 1) < 8192)
    omega
  · pointwise [val_main_call0_v0, val_main_c]
    show (((0#32 : BitVec 32).toInt : ℝ) : EReal) = 0
    simp

/-- The row before, zero before the first. -/
def before (k : Fin 1024) : EReal := if h : i.val = 0 then 0 else unitOf x mods g w b ⟨i.val - 1, by omega⟩ k
/-- The row after, zero after the last. -/
def after (k : Fin 1024) : EReal := if h : i.val = 8191 then 0 else unitOf x mods g w b ⟨i.val + 1, by omega⟩ k

/-- The first of the three shifted reads. -/
theorem shift0 : val_main_v34 (F := Ideal) x mods g w (ix3 b ⟨i.val, by omega⟩ j) = before x mods g w b i j := by
  unfold before
  split_ifs with h
  · exact v34_outside x mods g w b j _ (.inl h)
  · exact v34_inside x mods g w b j _ _ (by show i.val = 1 + (i.val - 1); omega)

/-- The third of the three shifted reads. -/
theorem shift2 : val_main_v34 (F := Ideal) x mods g w (ix3 b ⟨2 + i.val, by omega⟩ j) = after x mods g w b i j := by
  unfold after
  split_ifs with h
  · exact v34_outside x mods g w b j _ (.inr (by show 2 + i.val = 8193; omega))
  · exact v34_inside x mods g w b j _ _ (by show 2 + i.val = 1 + (i.val + 1); omega)

/-- The convolution of the reference. -/
theorem v54_eq : val_main_v54 (F := Ideal) x mods g w cw (ix3 b i j)
    = conv (before x mods g w b i) (unitOf x mods g w b i) (after x mods g w b i) (fun e k => cw (ix2 e k)) j := by
  have h : val_main_v54 (F := Ideal) x mods g w cw (ix3 b i j) = conv (fun k => val_main_v34 (F := Ideal) x mods g w (ix3 b ⟨i.val, by omega⟩ k))
      (fun k => val_main_v34 (F := Ideal) x mods g w (ix3 b ⟨1 + i.val, by omega⟩ k))
      (fun k => val_main_v34 (F := Ideal) x mods g w (ix3 b ⟨2 + i.val, by omega⟩ k)) (fun e k => cw (ix2 e k)) j := by
    unfold conv val_main_v54 val_main_v53 val_main_v47 val_main_v46 val_main_v40 val_main_v35 val_main_v41 val_main_v48
    generalize val_main_v34 (F := Ideal) x mods g w = u
    pointwise [val_main_v52, val_main_v51, val_main_v50, val_main_v49, val_main_v45, val_main_v44, val_main_v43, val_main_v42, val_main_v39,
      val_main_v38, val_main_v37, val_main_v36]
  rw [h]
  have e0 : (fun k => val_main_v34 (F := Ideal) x mods g w (ix3 b ⟨i.val, by omega⟩ k)) = before x mods g w b i := funext fun k => shift0 x mods g w b i k
  have e1 : (fun k => val_main_v34 (F := Ideal) x mods g w (ix3 b ⟨1 + i.val, by omega⟩ k)) = unitOf x mods g w b i :=
    funext fun k => v34_inside x mods g w b k _ i rfl
  have e2 : (fun k => val_main_v34 (F := Ideal) x mods g w (ix3 b ⟨2 + i.val, by omega⟩ k)) = after x mods g w b i := funext fun k => shift2 x mods g w b i k
  rw [e0, e1, e2]

/-- The reference's result before its rows are laid out flat. -/
theorem v59_eq : val_main_v59 (F := Ideal) x mods g w cw wo (ix3 b i j)
    = mixer (rowOf x b i) (modOf mods b 5) (normOf x mods g b i)
        (conv (before x mods g w b i) (unitOf x mods g w b i) (after x mods g w b i) (fun e k => cw (ix2 e k)))
        (fun l k => w (ix2 l ⟨k.val, by omega⟩)) (fun k j => wo (ix2 k j)) j := by
  have h : val_main_v59 (F := Ideal) x mods g w cw wo (ix3 b i j)
      = mixer (rowOf x b i) (modOf mods b 5) (fun k => val_main_v28 (F := Ideal) x mods g (ix3 b i k))
          (fun k => val_main_v54 (F := Ideal) x mods g w cw (ix3 b i k)) (fun l k => w (ix2 l ⟨k.val, by omega⟩)) (fun k j => wo (ix2 k j)) j := by
    unfold mixer val_main_v59 val_main_v58 val_main_v56 val_main_v55
    generalize val_main_v54 (F := Ideal) x mods g w cw = v
    unfold val_main_v30 val_main_v29
    generalize val_main_v28 (F := Ideal) x mods g = n
    pointwise [val_main_v57, val_main_v9, val_main_v8, val_main_v7, val_main_v0]
  rw [h]
  simp only [v54_eq, v28_eq]

/-- The reference's result: row `r` is row `r % 8192` of batch `r / 8192`. -/
theorem v60_eq (r : Fin 16384) : val_main_v60 (F := Ideal) x mods g w cw wo (ix2 r j)
    = val_main_v59 (F := Ideal) x mods g w cw wo (ix3 ⟨r.val / 8192, by omega⟩ ⟨r.val % 8192, by omega⟩ j) := by
  rw [val_main_v60_apply]
  refine congrArg _ (funext fun a => ?_)
  match a with
  | ⟨0, _⟩ => exact Fin.ext (by show _ = r.val / 8192; simp [idx_main_v60]; omega)
  | ⟨1, _⟩ => exact Fin.ext (by show _ = r.val % 8192; simp [idx_main_v60]; omega)
  | ⟨2, _⟩ => exact Fin.ext (by show _ = j.val; simp [idx_main_v60])

end Cert.Conv

end
-- ==== Proof.ConvValue.lean ====
module

public import proofs.«01_k».proof.Proof.ConvRef
public import Idealize.ShloMosaic.Lib.Claim

@[expose] public section

/-! The convolution mixer: its result array is the reference's, on every input. -/

set_option maxRecDepth 16384

noncomputable section

namespace Cert.Conv

open Idealize.ShloMosaic Cert.Kernel4Ideal Cert.Kernel4Ideal.Gen
open Idealize.ShloMosaic.TcCoe Idealize.SL.Sem
open Cert.Ffn (modulated)

section Out

variable {x : Vec Ideal S512x1024 .f32} {p q : Vec Ideal S8x1024 .f32} {mods : Vec Ideal S1x9x1024 .f32} {g : Vec Ideal S1x1024 .f32}
  {w : Vec Ideal S1024x3072 .bf16} {cw : Vec Ideal S3x1024 .f32} {wo : Vec Ideal S1024x1024 .bf16}

/-- Modulation row 3. -/
theorem ld_mod3 (k : Fin 1024) : View.ld (Val := Elt Ideal) (e' := .f32) mods r0_3 (ix3 0 0 k) = mods (ix3 0 3 k) :=
  View.ld_unit_apply_of _ _ _ _ _ _ fun a => by match a with | ⟨0, _⟩ => rfl | ⟨1, _⟩ => rfl | ⟨2, _⟩ => exact (Nat.zero_add _).symm

/-- Modulation row 4. -/
theorem ld_mod4 (k : Fin 1024) : View.ld (Val := Elt Ideal) (e' := .f32) mods r0_4 (ix3 0 0 k) = mods (ix3 0 4 k) :=
  View.ld_unit_apply_of _ _ _ _ _ _ fun a => by match a with | ⟨0, _⟩ => rfl | ⟨1, _⟩ => rfl | ⟨2, _⟩ => exact (Nat.zero_add _).symm

/-- Modulation row 5. -/
theorem ld_mod5 (k : Fin 1024) : View.ld (Val := Elt Ideal) (e' := .f32) mods r0_10 (ix3 0 0 k) = mods (ix3 0 5 k) :=
  View.ld_unit_apply_of _ _ _ _ _ _ fun a => by match a with | ⟨0, _⟩ => rfl | ⟨1, _⟩ => rfl | ⟨2, _⟩ => exact (Nat.zero_add _).symm

/-- The first columns of the projection. -/
theorem ld_cols0 (l k : Fin 1024) : View.ld (Val := Elt Ideal) (e' := .bf16) w r0_8 (ix2 l k) = w (ix2 l ⟨k.val, by omega⟩) :=
  View.ld_unit_apply_of _ _ _ _ _ _ fun a => by match a with | ⟨0, _⟩ => exact (Nat.zero_add _).symm | ⟨1, _⟩ => exact (Nat.zero_add _).symm

/-- The middle columns of the projection. -/
theorem ld_cols1 (l k : Fin 1024) : View.ld (Val := Elt Ideal) (e' := .bf16) w r0_5 (ix2 l k) = w (ix2 l ⟨1024 + k.val, by omega⟩) :=
  View.ld_unit_apply_of _ _ _ _ _ _ fun a => by match a with | ⟨0, _⟩ => exact (Nat.zero_add _).symm | ⟨1, _⟩ => rfl

/-- The last columns of the projection. -/
theorem ld_cols2 (l k : Fin 1024) : View.ld (Val := Elt Ideal) (e' := .bf16) w r0_6 (ix2 l k) = w (ix2 l ⟨2048 + k.val, by omega⟩) :=
  View.ld_unit_apply_of _ _ _ _ _ _ fun a => by match a with | ⟨0, _⟩ => exact (Nat.zero_add _).symm | ⟨1, _⟩ => rfl

/-- What the body leaves at one element, from its eight blocks. -/
theorem out_apply (i : grid0.Coords) (t : Fin 32) (ht : (i 0).val = t.val) (r : Fin 512) (j : Fin 1024) :
    out0_8 (F := Ideal) i x p q mods g w cw wo (ix2 r j)
      = body t r (fun k => x (ix2 r k)) (rows x p q) (fun k => g (ix2 0 k)) (fun k => mods (ix3 0 3 k)) (fun k => mods (ix3 0 4 k))
          (fun k => mods (ix3 0 5 k)) (fun l k => w (ix2 l ⟨k.val, by omega⟩)) (fun l k => w (ix2 l ⟨1024 + k.val, by omega⟩))
          (fun l k => w (ix2 l ⟨2048 + k.val, by omega⟩)) (fun e k => cw (ix2 e k)) (fun k j => wo (ix2 k j)) j := by
  frame_out
  unfold k0_pay7 k0_pay8
  rw [ht, View.ld_unit_lit _ x (by decide), View.ld_unit_lit _ p (by decide), View.ld_unit_lit _ q (by decide), View.ld_unit_lit _ g (by decide)]
  refine (body_apply _ _ _ _ _ _ _ _ _ _ t _ _ r j).trans ?_
  exact body_congr t r j rfl rfl rfl (funext ld_mod3) (funext ld_mod4) (funext ld_mod5) (funext fun l => funext (ld_cols0 l))
    (funext fun l => funext (ld_cols1 l)) (funext fun l => funext (ld_cols2 l)) rfl rfl

end Out

/-- Which blocks grid point `t` reads and writes: its rows, the eight rows before and after, and the modulation of its batch. -/
theorem idx : ∀ t : Fin cfg0.N, win0_0.index t = ![t.val, 0] ∧ win0_1.index t = ![t.val * 64 - 1, 0] ∧ win0_2.index t = ![min ((t.val + 1) * 64) 2047, 0]
    ∧ win0_3.index t = ![t.val / 16, 0, 0] ∧ win0_4.index t = ![0, 0] ∧ win0_5.index t = ![0, 0] ∧ win0_6.index t = ![0, 0] ∧ win0_7.index t = ![0, 0]
    ∧ win0_8.index t = ![t.val, 0] ∧ (grid0.coords t 0).val = t.val ∧ t.val < 32 :=
  (by decide +kernel : ∀ t : Fin grid0.N, _)

variable (m : (ℓ : Loc nD τ sig) → Buf (Elt Ideal) ℓ) (c : Dev nD) (t : Fin cfg0.N)

/-- The six arguments. -/
abbrev X : FVec Ideal S16384x1024 .f32 := m ((c : Thread nD τ).loc main_arg0)
abbrev M : FVec Ideal S8x9x1024 .f32 := m ((c : Thread nD τ).loc main_arg1)
abbrev G : FVec Ideal S1024 .f32 := m ((c : Thread nD τ).loc main_arg2)
abbrev W : FVec Ideal S1024x3072 .f32 := m ((c : Thread nD τ).loc main_arg3)
abbrev C : FVec Ideal S3x1024 .f32 := m ((c : Thread nD τ).loc main_arg4)
abbrev O : FVec Ideal S1024x1024 .f32 := m ((c : Thread nD τ).loc main_arg5)

/-- The block of rows. -/
theorem blk0 (j : Fin 512) (k : Fin 1024) (r : Fin 16384) (hr : r.val = t.val * 512 + j.val) : iblk m c 0 t (ix2 j k) = X m c (ix2 r k) := by
  blk_ext [iblk, V, idx t]

/-- The eight rows before. -/
theorem blk1 (j : Fin 8) (k : Fin 1024) (r : Fin 16384) (hr : r.val = (t.val * 64 - 1) * 8 + j.val) : iblk m c 1 t (ix2 j k) = X m c (ix2 r k) := by
  blk_ext [iblk, V, idx t]

/-- The eight rows after. -/
theorem blk2 (j : Fin 8) (k : Fin 1024) (r : Fin 16384) (hr : r.val = min ((t.val + 1) * 64) 2047 * 8 + j.val) : iblk m c 2 t (ix2 j k) = X m c (ix2 r k) := by
  blk_ext [iblk, V, idx t]

/-- The block of modulation vectors. -/
theorem blk3 (e : Fin 9) (k : Fin 1024) (b : Fin 8) (hb : b.val = t.val / 16) : iblk m c 3 t (ix3 0 e k) = M m c (ix3 b e k) := by
  blk_ext [iblk, V, idx t]

/-- The gain. -/
theorem blk4 (k : Fin 1024) : iblk m c 4 t (ix2 0 k) = G m c (ix1 k) := by
  blk_ext! [iblk, idx t]

/-- The projection into three parts. -/
theorem blk5 (l : Fin 1024) (k : Fin 3072) : iblk m c 5 t (ix2 l k) = W m c (ix2 l k) := by
  blk_ext! [iblk, idx t]

/-- The convolution's weights. -/
theorem blk6 (e : Fin 3) (k : Fin 1024) : iblk m c 6 t (ix2 e k) = C m c (ix2 e k) := by
  blk_ext [iblk, V, idx t]

/-- The projection back. -/
theorem blk7 (k j : Fin 1024) : iblk m c 7 t (ix2 k j) = O m c (ix2 k j) := by
  blk_ext! [iblk, idx t]

/-- Row `s` of the rows that the body works on is eight rows back in the input, unless it lies beyond the input. -/
theorem rows_eq (s : Fin 528) (r : Fin 16384) (hr : r.val + 8 = t.val * 512 + s.val) :
    rows (iblk m c 0 t) (iblk m c 1 t) (iblk m c 2 t) s = fun k => X m c (ix2 r k) := by
  have ht : t.val < 32 := (idx t).2.2.2.2.2.2.2.2.2.2
  have hlt := r.isLt
  funext k
  unfold rows
  split_ifs with h h'
  · exact blk1 m c t _ k r (by show r.val = (t.val * 64 - 1) * 8 + s.val; omega)
  · exact blk0 m c t _ k r (by show r.val = t.val * 512 + (s.val - 8); omega)
  · exact blk2 m c t _ k r (by show r.val = min ((t.val + 1) * 64) 2047 * 8 + (s.val - 8 - 512); omega)

/-- A row and its neighbours among the rows that the body works on. -/
theorem near (t r b i : ℕ) (h : b * 8192 + i = t * 512 + r) : b * 8192 + i + 8 = t * 512 + (8 + r)
    ∧ (¬i = 0 → b * 8192 + (i - 1) + 8 = t * 512 + (7 + r)) ∧ b * 8192 + (i + 1) + 8 = t * 512 + (9 + r) := by omega

/-- The result of the body at one element is the reference's. -/
theorem body_eq (t' : Fin 32) (ht' : t'.val = t.val) (r : Fin 512) (b : Fin 2) (i : Fin 8192) (hb : b.val = t.val / 16) (hi : b.val * 8192 + i.val = t.val * 512 + r.val)
    (g sh sc ga : Fin 1024 → EReal) (wb wc wh : Fin 1024 → Fin 1024 → EReal) (cw : Fin 3 → Fin 1024 → EReal) (wo : Fin 1024 → Fin 1024 → EReal) (j : Fin 1024) :
    body t' r (rowOf (X m c) b i) (rows (iblk m c 0 t) (iblk m c 1 t) (iblk m c 2 t)) g sh sc ga wb wc wh cw wo j
      = mixer (rowOf (X m c) b i) ga (modulated (rowOf (X m c) b i) g sh sc)
          (conv (fun k => if h : i.val = 0 then 0 else unit (modulated (rowOf (X m c) b ⟨i.val - 1, by omega⟩) g sh sc) wc wh k)
            (unit (modulated (rowOf (X m c) b i) g sh sc) wc wh)
            (fun k => if h : i.val = 8191 then 0 else unit (modulated (rowOf (X m c) b ⟨i.val + 1, by omega⟩) g sh sc) wc wh k) cw) wb wo j := by
  have hr := r.isLt
  have hl := i.isLt
  have e1 : rows (iblk m c 0 t) (iblk m c 1 t) (iblk m c 2 t) ⟨8 + r.val, by omega⟩ = rowOf (X m c) b i :=
    rows_eq m c t _ _ (near _ _ _ _ hi).1
  have h0 : masked t' (fun s => modulated (rows (iblk m c 0 t) (iblk m c 1 t) (iblk m c 2 t) s) g sh sc) wc wh ⟨7 + r.val, by omega⟩
      = fun k => if h : i.val = 0 then 0 else unit (modulated (rowOf (X m c) b ⟨i.val - 1, by omega⟩) g sh sc) wc wh k := by
    funext k
    unfold masked
    split_ifs with h h' h'
    · rfl
    · exact absurd h (by show ¬((t'.val % 16 = 0 ∧ 7 + r.val < 8) ∨ (t'.val % 16 = 15 ∧ 520 ≤ 7 + r.val)); omega)
    · exact absurd h' (by have h : ¬((t'.val % 16 = 0 ∧ 7 + r.val < 8) ∨ (t'.val % 16 = 15 ∧ 520 ≤ 7 + r.val)) := h; omega)
    · show unit (modulated (rows (iblk m c 0 t) (iblk m c 1 t) (iblk m c 2 t) ⟨7 + r.val, _⟩) g sh sc) wc wh k = _
      rw [rows_eq m c t _ ⟨b.val * 8192 + (i.val - 1), by omega⟩ ((near _ _ _ _ hi).2.1 h')]
  have h1 : masked t' (fun s => modulated (rows (iblk m c 0 t) (iblk m c 1 t) (iblk m c 2 t) s) g sh sc) wc wh ⟨8 + r.val, by omega⟩
      = unit (modulated (rowOf (X m c) b i) g sh sc) wc wh := by
    funext k
    unfold masked
    rw [if_neg (by show ¬((t'.val % 16 = 0 ∧ 8 + r.val < 8) ∨ (t'.val % 16 = 15 ∧ 520 ≤ 8 + r.val)); omega)]
    show unit (modulated (rows (iblk m c 0 t) (iblk m c 1 t) (iblk m c 2 t) ⟨8 + r.val, _⟩) g sh sc) wc wh k = _
    rw [e1]
  have h2 : masked t' (fun s => modulated (rows (iblk m c 0 t) (iblk m c 1 t) (iblk m c 2 t) s) g sh sc) wc wh ⟨9 + r.val, by omega⟩
      = fun k => if h : i.val = 8191 then 0 else unit (modulated (rowOf (X m c) b ⟨i.val + 1, by omega⟩) g sh sc) wc wh k := by
    funext k
    unfold masked
    split_ifs with h h' h'
    · rfl
    · exact absurd h (by show ¬((t'.val % 16 = 0 ∧ 9 + r.val < 8) ∨ (t'.val % 16 = 15 ∧ 520 ≤ 9 + r.val)); omega)
    · exact absurd h' (by have h : ¬((t'.val % 16 = 0 ∧ 9 + r.val < 8) ∨ (t'.val % 16 = 15 ∧ 520 ≤ 9 + r.val)) := h; omega)
    · show unit (modulated (rows (iblk m c 0 t) (iblk m c 1 t) (iblk m c 2 t) ⟨9 + r.val, _⟩) g sh sc) wc wh k = _
      rw [rows_eq m c t _ ⟨b.val * 8192 + (i.val + 1), by omega⟩ (near _ _ _ _ hi).2.2]
  unfold body
  rw [h0, h1, h2, e1]

/-- The batch of row `r` of block `t`. -/
theorem batch (t r : ℕ) (hr : r < 512) : (t * 512 + r) / 8192 = t / 16 := by omega

/-- The result array is the reference's. -/
theorem final : (dats m 0 c).arrAt 8 (cfgs 0).N
    = Cert.Reference4Ideal.Read.val_main_v60 (F := Ideal) (X m c) (M m c) (G m c) (W m c) (C m c) (O m c) := by
  refine (dats m 0 c).arrAt_eq_of_covers 8 _ (by decide +kernel) fun t _ y => ?_
  blk_simp
  rw [after0_8]
  obtain ⟨r, j, rfl⟩ : ∃ (r : Fin 512) (j : Fin 1024), y = ix2 r j := ⟨y 0, y 1, funext fun a => by match a with | ⟨0, _⟩ => rfl | ⟨1, _⟩ => rfl⟩
  have ht : t.val < 32 := (idx t).2.2.2.2.2.2.2.2.2.2
  have hc : (grid0.coords t 0).val = t.val := (idx t).2.2.2.2.2.2.2.2.2.1
  refine (out_apply (grid0.coords t) ⟨t.val, ht⟩ hc r j).trans ?_
  have hy : ((cfg0.win 8).blk t).view.emb (ix2 r j) = ix2 (⟨t.val * 512 + r.val, by omega⟩ : Fin 16384) j := by
    blk_ext [idx t]
  rw [hy]
  refine Eq.trans ?_ ((v60_eq (X m c) (M m c) (G m c) (W m c) (C m c) (O m c) j _).trans (v59_eq _ _ _ _ _ _ _ _ _)).symm
  have hb := batch t.val r.val r.isLt
  have hr : (t.val * 512 + r.val) / 8192 * 8192 + (t.val * 512 + r.val) % 8192 = t.val * 512 + r.val := by omega
  refine (body_congr _ r j (funext fun k => blk0 m c t r k ⟨(t.val * 512 + r.val) / 8192 * 8192 + (t.val * 512 + r.val) % 8192, by omega⟩ hr) rfl
    (funext fun k => blk4 m c t k) (funext fun k => blk3 m c t 3 k ⟨(t.val * 512 + r.val) / 8192, by omega⟩ hb)
    (funext fun k => blk3 m c t 4 k ⟨(t.val * 512 + r.val) / 8192, by omega⟩ hb)
    (funext fun k => blk3 m c t 5 k ⟨(t.val * 512 + r.val) / 8192, by omega⟩ hb) (funext fun l => funext fun k => blk5 m c t l _)
    (funext fun l => funext fun k => blk5 m c t l _) (funext fun l => funext fun k => blk5 m c t l _) (funext fun e => funext fun k => blk6 m c t e k)
    (funext fun k => funext fun j => blk7 m c t k j)).trans ?_
  exact body_eq m c t ⟨t.val, ht⟩ rfl r ⟨(t.val * 512 + r.val) / 8192, by omega⟩ ⟨(t.val * 512 + r.val) % 8192, by omega⟩ hb hr _ _ _ _ _ _ _ _ _ j

end Cert.Conv

end
-- ==== Proof.OutProj.lean ====
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Claim

@[expose] public section

/-! The output projection of both head groups: its result array is the reference's, on every input. -/

set_option maxRecDepth 16384

noncomputable section

namespace Cert.OutProj

open Idealize.ShloMosaic Cert.Kernel5Ideal Cert.Kernel5Ideal.Gen
open Idealize.ShloMosaic.TcCoe Idealize.SL.Sem

/-- The residual plus the gate times the projection of both head groups. -/
def project (x gate : EReal) (a d : Fin 512 → EReal) (w : Fin 1024 → EReal) : EReal :=
  x + gate * ((∑ k : Fin 512, a k * w ⟨k.val, by omega⟩) + ∑ k : Fin 512, d k * w ⟨512 + k.val, by omega⟩)

/-- The projection depends on its parts alone. -/
theorem project_congr {x x' gate gate' : EReal} {a a' d d' : Fin 512 → EReal} {w w' : Fin 1024 → EReal}
    (hx : x = x') (hg : gate = gate') (ha : a = a') (hd : d = d') (hw : w = w') :
    project x gate a d w = project x' gate' a' d' w' := by subst hx hg ha hd hw; rfl

/-- The body's payload at one element. -/
theorem pay1_apply (a d : FVec Ideal S256x512 .bf16) (wa wd : FVec Ideal S512x1024 .bf16) (x : FVec Ideal S256x1024 .f32)
    (g : FVec Ideal S1x1x1024 .f32) (r : Fin 256) (j : Fin 1024) : k0_pay1 (F := Ideal) a wa d wd x g (ix2 r j)
      = x (ix2 r j) + g (ix3 0 0 j) * ((∑ k : Fin 512, a (ix2 r k) * wa (ix2 k j)) + ∑ k : Fin 512, d (ix2 r k) * wd (ix2 k j)) := by
  pointwise [k0_pay1]

variable {x : Vec Ideal S256x1024 .f32} {a d : Vec Ideal S256x512 .bf16} {mods : Vec Ideal S1x9x1024 .f32} {w : Vec Ideal S1024x1024 .bf16}

/-- Modulation row 5. -/
theorem ld_mod5 (k : Fin 1024) : View.ld (Val := Elt Ideal) (e' := .f32) mods r0_4 (ix3 0 0 k) = mods (ix3 0 5 k) :=
  View.ld_unit_apply_of _ _ _ _ _ _ fun a => by match a with | ⟨0, _⟩ => rfl | ⟨1, _⟩ => rfl | ⟨2, _⟩ => exact (Nat.zero_add _).symm

/-- The first rows of the projection. -/
theorem ld_rows0 (k : Fin 512) (j : Fin 1024) : View.ld (Val := Elt Ideal) (e' := .bf16) w r0_1 (ix2 k j) = w (ix2 ⟨k.val, by omega⟩ j) :=
  View.ld_unit_apply_of _ _ _ _ _ _ fun a => by match a with | ⟨0, _⟩ => exact (Nat.zero_add _).symm | ⟨1, _⟩ => exact (Nat.zero_add _).symm

/-- The last rows of the projection. -/
theorem ld_rows512 (k : Fin 512) (j : Fin 1024) : View.ld (Val := Elt Ideal) (e' := .bf16) w r0_2 (ix2 k j) = w (ix2 ⟨512 + k.val, by omega⟩ j) :=
  View.ld_unit_apply_of _ _ _ _ _ _ fun a => by match a with | ⟨0, _⟩ => rfl | ⟨1, _⟩ => exact (Nat.zero_add _).symm

/-- What the body leaves at one element, from its five blocks. -/
theorem out_apply (r : Fin 256) (j : Fin 1024) : out0_5 (F := Ideal) x a d mods w (ix2 r j)
    = project (x (ix2 r j)) (mods (ix3 0 5 j)) (fun k => a (ix2 r k)) (fun k => d (ix2 r k)) (fun k => w (ix2 k j)) := by
  frame_out
  refine (pay1_apply _ _ _ _ _ _ r j).trans ?_
  unfold project
  exact congrArg₂ (fun u v => x (ix2 r j) + u * v) (ld_mod5 j) (congrArg₂ (· + ·)
    (Finset.sum_congr rfl fun k _ => congrArg (a (ix2 r k) * ·) (ld_rows0 k j))
    (Finset.sum_congr rfl fun k _ => congrArg (d (ix2 r k) * ·) (ld_rows512 k j)))

/-- Which blocks grid point `t` reads and writes: the latent rows of its batch among all tokens, its rows, and its batch's modulation. -/
theorem idx : ∀ t : Fin cfg0.N, win0_0.index t = ![t.val / 32 * 33 + t.val % 32, 0] ∧ win0_1.index t = ![t.val, 0] ∧ win0_2.index t = ![t.val, 0]
    ∧ win0_3.index t = ![t.val / 32, 0, 0] ∧ win0_4.index t = ![0, 0] ∧ win0_5.index t = ![t.val, 0] ∧ t.val < 64 :=
  (by decide +kernel : ∀ t : Fin grid0.N, _)

variable (m : (ℓ : Loc nD τ sig) → Buf (Elt Ideal) ℓ) (c : Dev nD) (t : Fin cfg0.N)

/-- The five arguments. -/
abbrev X : FVec Ideal S16896x1024 .f32 := m ((c : Thread nD τ).loc main_arg0)
abbrev A : FVec Ideal S16384x512 .bf16 := m ((c : Thread nD τ).loc main_arg1)
abbrev D : FVec Ideal S16384x512 .bf16 := m ((c : Thread nD τ).loc main_arg2)
abbrev M : FVec Ideal S8x9x1024 .f32 := m ((c : Thread nD τ).loc main_arg3)
abbrev W : FVec Ideal S1024x1024 .f32 := m ((c : Thread nD τ).loc main_arg4)

/-- The block of rows of the residual. -/
theorem blk0 (j : Fin 256) (k : Fin 1024) (r : Fin 16896) (hr : r.val = (t.val / 32 * 33 + t.val % 32) * 256 + j.val) :
    iblk m c 0 t (ix2 j k) = X m c (ix2 r k) := by
  blk_ext [iblk, V, idx t]

/-- The block of rows of the first head group. -/
theorem blk1 (j : Fin 256) (k : Fin 512) (r : Fin 16384) (hr : r.val = t.val * 256 + j.val) : iblk m c 1 t (ix2 j k) = A m c (ix2 r k) := by
  blk_ext [iblk, V, idx t]

/-- The block of rows of the second head group. -/
theorem blk2 (j : Fin 256) (k : Fin 512) (r : Fin 16384) (hr : r.val = t.val * 256 + j.val) : iblk m c 2 t (ix2 j k) = D m c (ix2 r k) := by
  blk_ext [iblk, V, idx t]

/-- The block of modulation vectors. -/
theorem blk3 (e : Fin 9) (k : Fin 1024) (b : Fin 8) (hb : b.val = t.val / 32) : iblk m c 3 t (ix3 0 e k) = M m c (ix3 b e k) := by
  blk_ext [iblk, V, idx t]

/-- The projection. -/
theorem blk4 (k j : Fin 1024) : iblk m c 4 t (ix2 k j) = W m c (ix2 k j) := by
  blk_ext! [iblk, idx t]

section Reference

open Cert.Reference5Ideal.Read

variable (x : FVec Ideal S16896x1024 .f32) (a d : FVec Ideal S16384x512 .bf16) (mods : FVec Ideal S8x9x1024 .f32) (w : FVec Ideal S1024x1024 .f32)

/-- A sum over both head groups is the sum of theirs. -/
theorem sum_halves (f : Fin 1024 → EReal) : ∑ k, f k = (∑ k : Fin 512, f ⟨k.val, by omega⟩) + ∑ k : Fin 512, f ⟨512 + k.val, by omega⟩ :=
  Fin.sum_univ_add (a := 512) (b := 512) f

/-- The joined heads, in the first half. -/
theorem v6_low (b : Fin 2) (i : Fin 8192) (k : Fin 512) : val_main_v6 (F := Ideal) a d (ix3 b i ⟨k.val, by omega⟩)
    = a (ix2 ⟨b.val * 8192 + i.val, by omega⟩ k) := by
  have hk := k.isLt
  pointwise [val_main_v6, val_main_v3, val_main_v2]

/-- The joined heads, in the second half. -/
theorem v6_high (b : Fin 2) (i : Fin 8192) (k : Fin 512) : val_main_v6 (F := Ideal) a d (ix3 b i ⟨512 + k.val, by omega⟩)
    = d (ix2 ⟨b.val * 8192 + i.val, by omega⟩ k) := by
  have hk := k.isLt
  pointwise [val_main_v6, val_main_v5, val_main_v4]

/-- The reference's result before its rows are laid out flat. -/
theorem v13_eq (b : Fin 2) (i : Fin 8192) (j : Fin 1024) : val_main_v13 (F := Ideal) x a d mods w (ix3 b i j)
    = project (x (ix2 ⟨b.val * 8448 + i.val, by omega⟩ j)) (mods (ix3 ⟨b.val, by omega⟩ 5 j))
        (fun k => a (ix2 ⟨b.val * 8192 + i.val, by omega⟩ k)) (fun k => d (ix2 ⟨b.val * 8192 + i.val, by omega⟩ k)) (fun k => w (ix2 k j)) := by
  have h : val_main_v13 (F := Ideal) x a d mods w (ix3 b i j) = x (ix2 ⟨b.val * 8448 + i.val, by omega⟩ j)
      + mods (ix3 ⟨b.val, by omega⟩ 5 j) * ∑ k : Fin 1024, val_main_v6 (F := Ideal) a d (ix3 b i k) * w (ix2 k j) := by
    unfold val_main_v13 val_main_v12 val_main_v10
    generalize val_main_v6 (F := Ideal) a d = h
    pointwise [val_main_v11, val_main_v9, val_main_v8, val_main_v7, val_main_v1, val_main_v0]
  rw [h, sum_halves]
  simp only [v6_low, v6_high, project]

/-- The reference's result: row `r` is row `r % 8192` of batch `r / 8192`. -/
theorem v14_eq (r : Fin 16384) (j : Fin 1024) : val_main_v14 (F := Ideal) x a d mods w (ix2 r j)
    = val_main_v13 (F := Ideal) x a d mods w (ix3 ⟨r.val / 8192, by omega⟩ ⟨r.val % 8192, by omega⟩ j) := by
  rw [val_main_v14_apply]
  refine congrArg _ (funext fun a => ?_)
  match a with
  | ⟨0, _⟩ => exact Fin.ext (by show _ = r.val / 8192; simp [idx_main_v14]; omega)
  | ⟨1, _⟩ => exact Fin.ext (by show _ = r.val % 8192; simp [idx_main_v14]; omega)
  | ⟨2, _⟩ => exact Fin.ext (by show _ = j.val; simp [idx_main_v14])

end Reference

/-- Row `r` of block `t` is in batch `t / 32`, whose first latent row among all tokens is 33 blocks after the previous batch's. -/
theorem rows (t r : ℕ) (hr : r < 256) : (t * 256 + r) / 8192 = t / 32
    ∧ (t * 256 + r) / 8192 * 8448 + (t * 256 + r) % 8192 = (t / 32 * 33 + t % 32) * 256 + r := by
  have h : (t * 256 + r) / 8192 = t / 32 := by omega
  rw [h]
  refine ⟨rfl, ?_⟩
  omega

/-- The result array is the reference's. -/
theorem final : (dats m 0 c).arrAt 5 (cfgs 0).N
    = Cert.Reference5Ideal.Read.val_main_v14 (F := Ideal) (X m c) (A m c) (D m c) (M m c) (W m c) := by
  refine (dats m 0 c).arrAt_eq_of_covers 5 _ (by decide +kernel) fun t _ y => ?_
  blk_simp
  rw [after0_5]
  obtain ⟨r, j, rfl⟩ : ∃ (r : Fin 256) (j : Fin 1024), y = ix2 r j := ⟨y 0, y 1, funext fun a => by match a with | ⟨0, _⟩ => rfl | ⟨1, _⟩ => rfl⟩
  have ht : t.val < 64 := (idx t).2.2.2.2.2.2
  refine (out_apply r j).trans ?_
  have hy : ((cfg0.win 5).blk t).view.emb (ix2 r j) = ix2 (⟨t.val * 256 + r.val, by omega⟩ : Fin 16384) j := by
    blk_ext [idx t]
  rw [hy]
  refine Eq.trans ?_ ((v14_eq (X m c) (A m c) (D m c) (M m c) (W m c) _ j).trans (v13_eq _ _ _ _ _ _ _ _)).symm
  have hr : (t.val * 256 + r.val) / 8192 * 8192 + (t.val * 256 + r.val) % 8192 = t.val * 256 + r.val := by omega
  obtain ⟨hb, hx⟩ := rows t.val r.val r.isLt
  exact project_congr (blk0 m c t r j _ hx) (blk3 m c t 5 j _ hb)
    (funext fun k => blk1 m c t r k _ hr) (funext fun k => blk2 m c t r k _ hr) (funext fun k => blk4 m c t k j)

end Cert.OutProj

end
-- ==== Proof.AttnInPay.lean ====
module

public import proofs.«01_k».proof.Proof.FfnPay
public import proofs.«01_k».proof.Proof.Gen.Kernel6Ideal.Value
public import Idealize.ShloMosaic.Lib.Pointwise
public import Idealize.ShloMosaic.Lib.Pipeline.ValueKit

@[expose] public section

/-! The input projection of the attention: what the body leaves in its six blocks, as formulas of its input blocks. -/

set_option maxRecDepth 16384

noncomputable section

namespace Cert.AttnIn

open Idealize.ShloMosaic Cert.Kernel6Ideal Cert.Kernel6Ideal.Gen
open Idealize.ShloMosaic.TcCoe Idealize.SL.Sem
open Cert.Ffn (modulated)

/-- The product of a modulated row with one column of the projection. -/
def proj (x g sh sc w : Fin 1024 → EReal) : EReal := ∑ k, modulated x g sh sc k * w k

/-- The product depends on its parts alone. -/
theorem proj_congr {x x' g g' sh sh' sc sc' w w' : Fin 1024 → EReal} (hx : x = x') (hg : g = g') (hh : sh = sh') (hc : sc = sc') (hw : w = w') :
    proj x g sh sc w = proj x' g' sh' sc' w' := by subst hx hg hh hc hw; rfl

/-- Lane `l` of the head pair that starts at lane `h`, rotated: its neighbours are taken around the end of the pair. -/
def turn (z : Fin 512 → EReal) (cs nx pv : Fin 128 → EReal) (h : ℕ) (hh : h ≤ 384) (l : Fin 128) : EReal :=
  z ⟨h + l.val, by omega⟩ * cs l + z ⟨h + (l.val + 128 - 127) % 128, by omega⟩ * nx l + z ⟨h + (l.val + 128 - 1) % 128, by omega⟩ * pv l

/-- Lane `j` of all four head pairs, rotated. -/
def turned (z : Fin 512 → EReal) (cs nx pv : Fin 128 → EReal) (j : Fin 512) : EReal :=
  turn z cs nx pv (j.val / 128 * 128) (by omega) ⟨j.val % 128, by omega⟩

/-- The rotation of a lane given by its pair. -/
theorem turned_at (z : Fin 512 → EReal) (cs nx pv : Fin 128 → EReal) (h : ℕ) (hh : h ≤ 384) (hd : h % 128 = 0) (l : Fin 128) (j : Fin 512) (hj : j.val = h + l.val) :
    turned z cs nx pv j = turn z cs nx pv h hh l := by
  have hl := l.isLt
  have e1 : j.val / 128 * 128 = h := by omega
  have e2 : (⟨j.val % 128, by omega⟩ : Fin 128) = l := Fin.ext (by show j.val % 128 = l.val; omega)
  unfold turned
  simp only [e1, e2]

/-- The rotation depends on its parts alone. -/
theorem turned_congr {z z' : Fin 512 → EReal} {cs cs' nx nx' pv pv' : Fin 128 → EReal} (hz : z = z') (hc : cs = cs') (hn : nx = nx') (hp : pv = pv')
    (j : Fin 512) : turned z cs nx pv j = turned z' cs' nx' pv' j := by subst hz hc hn hp; rfl

section Pay

variable (x : FVec Ideal S256x1024 .f32) (g : FVec Ideal S1x1024 .f32) (sh sc : FVec Ideal S1x1x1024 .f32) (n : FVec Ideal S256x1024 .bf16)
  (w : FVec Ideal S1024x512 .bf16) (cs nx pv : FVec Ideal S256x128 .f32) (z : FVec Ideal S256x512 .f32) (r : Fin 256) (j : Fin 512) (l : Fin 128)

/-- The modulated row. -/
theorem pay2_apply (k : Fin 1024) : k0_pay2 (F := Ideal) x g sh sc (ix2 r k)
    = modulated (fun k => x (ix2 r k)) (fun k => g (ix2 0 k)) (fun k => sh (ix3 0 0 k)) (fun k => sc (ix3 0 0 k)) k := by
  unfold modulated
  pointwise [k0_pay2]

/-- The product with the first columns. -/
theorem pay3_apply : k0_pay3 (F := Ideal) x g sh sc w (ix2 r j)
    = (∑ k : Fin 1024, k0_pay2 (F := Ideal) x g sh sc (ix2 r k) * w (ix2 k j)) * Ideal.ofBits .f32 0x3E000000#32 := by
  unfold k0_pay3
  generalize k0_pay2 (F := Ideal) x g sh sc = n
  pointwise []

/-- The product for the first keys. -/
theorem pay5_apply : k0_pay5 (F := Ideal) n (k0_pay4 w) (constant S256x512 .f32 0x00000000#32) (ix2 r j) = ∑ k : Fin 1024, n (ix2 r k) * w (ix2 k j) := by
  pointwise [k0_pay5, k0_pay4]

/-- The product for the first values. -/
theorem pay6_apply : k0_pay6 (F := Ideal) n w (ix2 r j) = ∑ k : Fin 1024, n (ix2 r k) * w (ix2 k j) := by
  pointwise [k0_pay6]

/-- The product for the second queries. -/
theorem pay10_apply : k0_pay10 (F := Ideal) n w (ix2 r j) = ∑ k : Fin 1024, n (ix2 r k) * w (ix2 k j) := by
  pointwise [k0_pay10]

/-- The product for the second keys. -/
theorem pay11_apply : k0_pay11 (F := Ideal) n w (ix2 r j) = ∑ k : Fin 1024, n (ix2 r k) * w (ix2 k j) := by
  pointwise [k0_pay11]

/-- The product for the second values, transposed. -/
theorem pay22_apply : k0_pay1 (F := Ideal) (k0_pay22 n w) (ix3 0 j r) = ∑ k : Fin 1024, n (ix2 r k) * w (ix2 k j) := by
  pointwise [k0_pay1, k0_pay22]

/-- The first pair of heads of the queries, rotated and scaled. -/
theorem pay12_apply : k0_pay12 (F := Ideal) n cs nx pv w (ix2 r l)
    = turn (fun j => k0_pay10 (F := Ideal) n w (ix2 r j)) (fun l => cs (ix2 r l)) (fun l => nx (ix2 r l)) (fun l => pv (ix2 r l)) 0 (by omega) l
      * Ideal.ofBits .f32 0x3E000000#32 := by
  unfold k0_pay12 turn
  generalize k0_pay10 (F := Ideal) n w = z
  pointwise [k0_pay7, k0_pay8, k0_pay9]

/-- The second pair of heads of the queries, rotated and scaled. -/
theorem pay15_apply : k0_pay15 (F := Ideal) cs nx pv z (ix2 r l)
    = turn (fun j => z (ix2 r j)) (fun l => cs (ix2 r l)) (fun l => nx (ix2 r l)) (fun l => pv (ix2 r l)) 128 (by omega) l
      * Ideal.ofBits .f32 0x3E000000#32 := by
  unfold turn
  pointwise [k0_pay15]

/-- The third pair of heads of the queries, rotated and scaled. -/
theorem pay18_apply : k0_pay18 (F := Ideal) (k0_pay17 cs nx pv z) (ix2 r l)
    = turn (fun j => z (ix2 r j)) (fun l => cs (ix2 r l)) (fun l => nx (ix2 r l)) (fun l => pv (ix2 r l)) 256 (by omega) l
      * Ideal.ofBits .f32 0x3E000000#32 := by
  unfold turn
  pointwise [k0_pay17, k0_pay18]

/-- The fourth pair of heads of the queries, rotated and scaled. -/
theorem pay20_apply : k0_pay20 (F := Ideal) cs nx pv z (ix2 r l)
    = turn (fun j => z (ix2 r j)) (fun l => cs (ix2 r l)) (fun l => nx (ix2 r l)) (fun l => pv (ix2 r l)) 384 (by omega) l
      * Ideal.ofBits .f32 0x3E000000#32 := by
  unfold turn
  pointwise [k0_pay20]

/-- The first pair of heads of the keys, rotated. -/
theorem pay14_apply : k0_pay14 (F := Ideal) cs nx pv (k0_pay13 n w) (ix2 r l)
    = turn (fun j => k0_pay11 (F := Ideal) n w (ix2 r j)) (fun l => cs (ix2 r l)) (fun l => nx (ix2 r l)) (fun l => pv (ix2 r l)) 0 (by omega) l := by
  unfold k0_pay13 turn
  generalize k0_pay11 (F := Ideal) n w = z
  pointwise [k0_pay14]

/-- The second pair of heads of the keys, rotated. -/
theorem pay16_apply : k0_pay16 (F := Ideal) cs nx pv z (ix2 r l)
    = turn (fun j => z (ix2 r j)) (fun l => cs (ix2 r l)) (fun l => nx (ix2 r l)) (fun l => pv (ix2 r l)) 128 (by omega) l := by
  unfold turn
  pointwise [k0_pay16]

/-- The third pair of heads of the keys, rotated. -/
theorem pay19_apply : k0_pay19 (F := Ideal) cs nx pv z (ix2 r l)
    = turn (fun j => z (ix2 r j)) (fun l => cs (ix2 r l)) (fun l => nx (ix2 r l)) (fun l => pv (ix2 r l)) 256 (by omega) l := by
  unfold turn
  pointwise [k0_pay19]

/-- The fourth pair of heads of the keys, rotated. -/
theorem pay21_apply : k0_pay21 (F := Ideal) cs nx pv z (ix2 r l)
    = turn (fun j => z (ix2 r j)) (fun l => cs (ix2 r l)) (fun l => nx (ix2 r l)) (fun l => pv (ix2 r l)) 384 (by omega) l := by
  unfold turn
  pointwise [k0_pay21]

end Pay

end Cert.AttnIn

end
-- ==== Proof.AttnInOut.lean ====
module

public import proofs.«01_k».proof.Proof.AttnInPay

@[expose] public section

/-! The input projection of the attention: the six blocks that the body leaves. -/

set_option maxRecDepth 16384

noncomputable section

namespace Cert.AttnIn

open Idealize.ShloMosaic Cert.Kernel6Ideal Cert.Kernel6Ideal.Gen
open Idealize.ShloMosaic.TcCoe Idealize.SL.Sem
open Cert.Ffn (modulated)

variable {x : Vec Ideal S256x1024 .f32} {mods : Vec Ideal S1x9x1024 .f32} {g : Vec Ideal S1x1024 .f32} {w : Vec Ideal S1024x3072 .bf16}
  {cs nx pv : Vec Ideal S256x128 .f32}

/-- Modulation row 3. -/
theorem ld_mod3 (k : Fin 1024) : View.ld (Val := Elt Ideal) (e' := .f32) mods r0_2 (ix3 0 0 k) = mods (ix3 0 3 k) :=
  View.ld_unit_apply_of _ _ _ _ _ _ fun a => by match a with | ⟨0, _⟩ => rfl | ⟨1, _⟩ => rfl | ⟨2, _⟩ => exact (Nat.zero_add _).symm

/-- Modulation row 4. -/
theorem ld_mod4 (k : Fin 1024) : View.ld (Val := Elt Ideal) (e' := .f32) mods r0_3 (ix3 0 0 k) = mods (ix3 0 4 k) :=
  View.ld_unit_apply_of _ _ _ _ _ _ fun a => by match a with | ⟨0, _⟩ => rfl | ⟨1, _⟩ => rfl | ⟨2, _⟩ => exact (Nat.zero_add _).symm

/-- Columns 0 to 511 of the projection. -/
theorem ld_w0 (k : Fin 1024) (j : Fin 512) : View.ld (Val := Elt Ideal) (e' := .bf16) w r0_4 (ix2 k j) = w (ix2 k ⟨0 + j.val, by omega⟩) :=
  View.ld_unit_apply_of _ _ _ _ _ _ fun a => by match a with | ⟨0, _⟩ => exact (Nat.zero_add _).symm | ⟨1, _⟩ => rfl
/-- Columns 512 to 1023 of the projection. -/
theorem ld_w1 (k : Fin 1024) (j : Fin 512) : View.ld (Val := Elt Ideal) (e' := .bf16) w r0_6 (ix2 k j) = w (ix2 k ⟨512 + j.val, by omega⟩) :=
  View.ld_unit_apply_of _ _ _ _ _ _ fun a => by match a with | ⟨0, _⟩ => exact (Nat.zero_add _).symm | ⟨1, _⟩ => rfl
/-- Columns 1024 to 1535 of the projection. -/
theorem ld_w2 (k : Fin 1024) (j : Fin 512) : View.ld (Val := Elt Ideal) (e' := .bf16) w r0_7 (ix2 k j) = w (ix2 k ⟨1024 + j.val, by omega⟩) :=
  View.ld_unit_apply_of _ _ _ _ _ _ fun a => by match a with | ⟨0, _⟩ => exact (Nat.zero_add _).symm | ⟨1, _⟩ => rfl
/-- Columns 1536 to 2047 of the projection. -/
theorem ld_w3 (k : Fin 1024) (j : Fin 512) : View.ld (Val := Elt Ideal) (e' := .bf16) w r0_9 (ix2 k j) = w (ix2 k ⟨1536 + j.val, by omega⟩) :=
  View.ld_unit_apply_of _ _ _ _ _ _ fun a => by match a with | ⟨0, _⟩ => exact (Nat.zero_add _).symm | ⟨1, _⟩ => rfl
/-- Columns 2048 to 2559 of the projection. -/
theorem ld_w4 (k : Fin 1024) (j : Fin 512) : View.ld (Val := Elt Ideal) (e' := .bf16) w r0_10 (ix2 k j) = w (ix2 k ⟨2048 + j.val, by omega⟩) :=
  View.ld_unit_apply_of _ _ _ _ _ _ fun a => by match a with | ⟨0, _⟩ => exact (Nat.zero_add _).symm | ⟨1, _⟩ => rfl
/-- Columns 2560 to 3071 of the projection. -/
theorem ld_w5 (k : Fin 1024) (j : Fin 512) : View.ld (Val := Elt Ideal) (e' := .bf16) w r0_15 (ix2 k j) = w (ix2 k ⟨2560 + j.val, by omega⟩) :=
  View.ld_unit_apply_of _ _ _ _ _ _ fun a => by match a with | ⟨0, _⟩ => exact (Nat.zero_add _).symm | ⟨1, _⟩ => rfl

variable (x mods g w) in
/-- The product of row `r` of a block with column `j` of the projection. -/
def prod (r : Fin 256) (j : Fin 3072) : EReal :=
  proj (fun k => x (ix2 r k)) (fun k => g (ix2 0 k)) (fun k => mods (ix3 0 3 k)) (fun k => mods (ix3 0 4 k)) (fun k => w (ix2 k j))

/-- The modulated row, from the body's blocks. -/
theorem row_eq (r : Fin 256) (k : Fin 1024) : k0_pay23 (F := Ideal) x mods g w cs nx pv (ix2 r k)
    = modulated (fun k => x (ix2 r k)) (fun k => g (ix2 0 k)) (fun k => mods (ix3 0 3 k)) (fun k => mods (ix3 0 4 k)) k := by
  unfold k0_pay23
  rw [View.ld_unit_lit _ x (by decide), View.ld_unit_lit _ g (by decide)]
  refine (pay2_apply _ _ _ _ r k).trans ?_
  exact congrArg₂ (fun a b => modulated (fun k => x (ix2 r k)) (fun k => g (ix2 0 k)) a b k) (funext ld_mod3) (funext ld_mod4)

/-- A product of the modulated row, from the body's blocks. -/
theorem prod_of {v : Vec Ideal S1024x512 .bf16} {o : ℕ} (ho : o ≤ 2560) (hv : ∀ (k : Fin 1024) (j : Fin 512), v (ix2 k j) = w (ix2 k ⟨o + j.val, by omega⟩))
    (r : Fin 256) (j : Fin 512) : (∑ k : Fin 1024, k0_pay23 (F := Ideal) x mods g w cs nx pv (ix2 r k) * v (ix2 k j)) = prod x mods g w r ⟨o + j.val, by omega⟩ := by
  unfold prod proj
  exact Finset.sum_congr rfl fun k _ => by rw [row_eq, hv]

variable (r : Fin 256) (j : Fin 512)

/-- Block 7. -/
theorem out7_apply : out0_7 (F := Ideal) x mods g w cs nx pv (ix2 r j) = prod x mods g w r ⟨0 + j.val, by omega⟩ * Ideal.ofBits .f32 0x3E000000#32 := by
  frame_out
  refine (pay3_apply _ _ _ _ _ r j).trans (congrArg (· * Ideal.ofBits .f32 0x3E000000#32) ?_)
  refine Eq.trans ?_ (prod_of (cs := cs) (nx := nx) (pv := pv) (by omega) ld_w0 r j)
  unfold k0_pay23
  rw [View.ld_unit_lit _ x (by decide), View.ld_unit_lit _ g (by decide)]

/-- Block 8. -/
theorem out8_apply : out0_8 (F := Ideal) x mods g w cs nx pv (ix2 r j) = prod x mods g w r ⟨512 + j.val, by omega⟩ := by
  frame_out
  exact (pay5_apply _ _ r j).trans (prod_of (by omega) ld_w1 r j)

/-- Block 9. -/
theorem out9_apply : out0_9 (F := Ideal) x mods g w cs nx pv (ix2 r j) = prod x mods g w r ⟨1024 + j.val, by omega⟩ := by
  frame_out
  exact (pay6_apply _ _ r j).trans (prod_of (by omega) ld_w2 r j)

/-- Block 12, transposed. -/
theorem out12_apply : out0_12 (F := Ideal) x mods g w cs nx pv (ix3 0 j r) = prod x mods g w r ⟨2560 + j.val, by omega⟩ := by
  frame_out
  exact (pay22_apply _ _ r j).trans (prod_of (by omega) ld_w5 r j)

/-- Block 10. -/
theorem out10_apply : out0_10 (F := Ideal) x mods g w cs nx pv (ix2 r j)
    = turned (fun j => prod x mods g w r ⟨1536 + j.val, by omega⟩) (fun l => cs (ix2 r l)) (fun l => nx (ix2 r l)) (fun l => pv (ix2 r l)) j * Ideal.ofBits .f32 0x3E000000#32 := by
  have hz : ∀ (r : Fin 256) (j : Fin 512), k0_pay10 (F := Ideal) (k0_pay23 x mods g w cs nx pv) (View.ld w r0_9) (ix2 r j) = prod x mods g w r ⟨1536 + j.val, by omega⟩ :=
    fun r j => (pay10_apply _ _ r j).trans (prod_of (by omega) ld_w3 r j)
  unfold out0_10
  refine View.canon_apply_of_pieces (Val := Elt Ideal) (fun y => turned (fun j => prod x mods g w (y 0) ⟨1536 + j.val, by omega⟩)
    (fun l => cs (ix2 (y 0) l)) (fun l => nx (ix2 (y 0) l)) (fun l => pv (ix2 (y 0) l)) (y 1) * Ideal.ofBits .f32 0x3E000000#32) _ ?_ (ix2 r j) (cover0_10 _ _ _ _ (ix2 r j))
  intro p hp
  unfold k0_pay24 k0_pay25 k0_pay26 k0_pay27 at hp
  rw [View.ld_unit_lit _ cs (by decide), View.ld_unit_lit _ nx (by decide), View.ld_unit_lit _ pv (by decide)] at hp
  simp only [List.mem_cons, List.not_mem_nil, or_false] at hp
  rcases hp with rfl | rfl | rfl | rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay20_apply _ _ _ _ r l).trans ?_
    have hy : (Rect.unit (s := S256x512) ![0, 384] S256x128.size inb_S256x512_S256x128_0_384).emb (ix2 r l) = ix2 r ⟨384 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨384 + l.val, _⟩ * Ideal.ofBits .f32 0x3E000000#32
    rw [turned_at _ _ _ _ 384 (by omega) (by omega) l _ rfl]
    simp only [hz, k0_pay7, k0_pay8, k0_pay9, shapeCast_self]
    try rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay18_apply _ _ _ _ r l).trans ?_
    have hy : (Rect.unit (s := S256x512) ![0, 256] S256x128.size inb_S256x512_S256x128_0_256).emb (ix2 r l) = ix2 r ⟨256 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨256 + l.val, _⟩ * Ideal.ofBits .f32 0x3E000000#32
    rw [turned_at _ _ _ _ 256 (by omega) (by omega) l _ rfl]
    simp only [hz, k0_pay7, k0_pay8, k0_pay9, shapeCast_self]
    try rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay15_apply _ _ _ _ r l).trans ?_
    have hy : (Rect.unit (s := S256x512) ![0, 128] S256x128.size inb_S256x512_S256x128_0_128).emb (ix2 r l) = ix2 r ⟨128 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨128 + l.val, _⟩ * Ideal.ofBits .f32 0x3E000000#32
    rw [turned_at _ _ _ _ 128 (by omega) (by omega) l _ rfl]
    simp only [hz, k0_pay7, k0_pay8, k0_pay9, shapeCast_self]
    try rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay12_apply _ _ _ _ _ r l).trans ?_
    have hy : (Rect.unit (s := S256x512) ![0, 0] S256x128.size inb_S256x512_S256x128_0_0).emb (ix2 r l) = ix2 r ⟨0 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨0 + l.val, _⟩ * Ideal.ofBits .f32 0x3E000000#32
    rw [turned_at _ _ _ _ 0 (by omega) (by omega) l _ rfl]
    simp only [hz, k0_pay7, k0_pay8, k0_pay9, shapeCast_self]
    try rfl

/-- Block 11. -/
theorem out11_apply : out0_11 (F := Ideal) x mods g w cs nx pv (ix2 r j)
    = turned (fun j => prod x mods g w r ⟨2048 + j.val, by omega⟩) (fun l => cs (ix2 r l)) (fun l => nx (ix2 r l)) (fun l => pv (ix2 r l)) j := by
  have hz : ∀ (r : Fin 256) (j : Fin 512), k0_pay11 (F := Ideal) (k0_pay23 x mods g w cs nx pv) (View.ld w r0_10) (ix2 r j) = prod x mods g w r ⟨2048 + j.val, by omega⟩ :=
    fun r j => (pay11_apply _ _ r j).trans (prod_of (by omega) ld_w4 r j)
  unfold out0_11
  refine View.canon_apply_of_pieces (Val := Elt Ideal) (fun y => turned (fun j => prod x mods g w (y 0) ⟨2048 + j.val, by omega⟩)
    (fun l => cs (ix2 (y 0) l)) (fun l => nx (ix2 (y 0) l)) (fun l => pv (ix2 (y 0) l)) (y 1)) _ ?_ (ix2 r j) (cover0_11 _ _ _ _ (ix2 r j))
  intro p hp
  unfold k0_pay24 k0_pay25 k0_pay26 k0_pay28 at hp
  rw [View.ld_unit_lit _ cs (by decide), View.ld_unit_lit _ nx (by decide), View.ld_unit_lit _ pv (by decide)] at hp
  simp only [List.mem_cons, List.not_mem_nil, or_false] at hp
  rcases hp with rfl | rfl | rfl | rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay21_apply _ _ _ _ r l).trans ?_
    have hy : (Rect.unit (s := S256x512) ![0, 384] S256x128.size inb_S256x512_S256x128_0_384).emb (ix2 r l) = ix2 r ⟨384 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨384 + l.val, _⟩
    rw [turned_at _ _ _ _ 384 (by omega) (by omega) l _ rfl]
    simp only [hz, k0_pay7, k0_pay8, k0_pay9, shapeCast_self]
    try rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay19_apply _ _ _ _ r l).trans ?_
    have hy : (Rect.unit (s := S256x512) ![0, 256] S256x128.size inb_S256x512_S256x128_0_256).emb (ix2 r l) = ix2 r ⟨256 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨256 + l.val, _⟩
    rw [turned_at _ _ _ _ 256 (by omega) (by omega) l _ rfl]
    simp only [hz, k0_pay7, k0_pay8, k0_pay9, shapeCast_self]
    try rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay16_apply _ _ _ _ r l).trans ?_
    have hy : (Rect.unit (s := S256x512) ![0, 128] S256x128.size inb_S256x512_S256x128_0_128).emb (ix2 r l) = ix2 r ⟨128 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨128 + l.val, _⟩
    rw [turned_at _ _ _ _ 128 (by omega) (by omega) l _ rfl]
    simp only [hz, k0_pay7, k0_pay8, k0_pay9, shapeCast_self]
    try rfl
  · intro y
    obtain ⟨r, l, rfl⟩ : ∃ (r : Fin 256) (l : Fin 128), y = ix2 r l := ⟨y 0, y 1, funext fun a => by match a with | ⟨0, _⟩ => rfl | ⟨1, _⟩ => rfl⟩
    refine (pay14_apply _ _ _ _ _ r l).trans ?_
    have hy : (Rect.unit (s := S256x512) ![0, 0] S256x128.size inb_S256x512_S256x128_0_0).emb (ix2 r l) = ix2 r ⟨0 + l.val, by omega⟩ := funext fun a => by
      match a with
      | ⟨0, _⟩ => exact Fin.ext ((ValueKit.rect_emb_unit_val _ _ _ _ _).trans (Nat.zero_add _))
      | ⟨1, _⟩ => exact Fin.ext (ValueKit.rect_emb_unit_val _ _ _ _ _)
    rw [hy]
    show _ = turned _ _ _ _ ⟨0 + l.val, _⟩
    rw [turned_at _ _ _ _ 0 (by omega) (by omega) l _ rfl]
    simp only [hz, k0_pay7, k0_pay8, k0_pay9, shapeCast_self]
    try rfl

end Cert.AttnIn

end
-- ==== Proof.AttnInTables.lean ====
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.StableHlo.ReadAt
public import Idealize.ShloMosaic.Lib.Claim

@[expose] public section

/-! The rotation tables of the input projection. -/

set_option maxRecDepth 16384

noncomputable section

namespace Cert.AttnIn

open Idealize.ShloMosaic Cert.Kernel6Ideal Cert.Kernel6Ideal.Gen
open Idealize.ShloMosaic.TcCoe Idealize.SL.Sem

variable (m : (ℓ : Loc nD τ sig) → Buf (Elt Ideal) ℓ) (c : Dev nD)

open Cert.Reference6Ideal.Read in
/-- The cosine of an angle, once for each lane of its pair. -/
def cos64 : FVec Ideal S8192x64 .f32 :=
  shapeCast _ (broadcastInDim S8192x32x2 ![0, 1] bcast_S8192x32_S8192x32x2_0_1 (val_main_v62 (F := Ideal))) shapeCasts_S8192x32x2_S8192x64

open Cert.Reference6Ideal.Read in
/-- The sine of an angle, once for each lane of its pair. -/
def sin64 : FVec Ideal S8192x64 .f32 :=
  shapeCast _ (broadcastInDim S8192x32x2 ![0, 1] bcast_S8192x32_S8192x32x2_0_1 (val_main_v64 (F := Ideal))) shapeCasts_S8192x32x2_S8192x64

/-- The repeated cosine at one lane. -/
theorem cos64_apply (r : Fin 8192) (l : Fin 64) : cos64 (ix2 r l) = Cert.Reference6Ideal.Read.val_main_v62 (F := Ideal) (ix2 r ⟨l.val / 2, by omega⟩) := by
  unfold cos64
  generalize Cert.Reference6Ideal.Read.val_main_v62 (F := Ideal) = y
  pointwise []

/-- The repeated sine at one lane. -/
theorem sin64_apply (r : Fin 8192) (l : Fin 64) : sin64 (ix2 r l) = Cert.Reference6Ideal.Read.val_main_v64 (F := Ideal) (ix2 r ⟨l.val / 2, by omega⟩) := by
  unfold sin64
  generalize Cert.Reference6Ideal.Read.val_main_v64 (F := Ideal) = y
  pointwise []

/-- The angles. -/
def angs : FVec Ideal S8192x32 .f32 := V m c main_v22
/-- Which lanes are even. -/
def evens : Vec Ideal S1x64 .i1 := V m c main_v33
/-- The cosine of each lane. -/
def coss : FVec Ideal S8192x64 .f32 := V m c main_v25
/-- The sine of each lane. -/
def sins : FVec Ideal S8192x64 .f32 := V m c main_v28
/-- The factor of the next lane. -/
def next64 : FVec Ideal S8192x64 .f32 := V m c main_v35
/-- The factor of the previous lane. -/
def prev64 : FVec Ideal S8192x64 .f32 := V m c main_v36

/-- The angles are the reference's. -/
theorem angs_eq : angs m c = Cert.Reference6Ideal.Read.val_main_v61 (F := Ideal) := by
  unfold angs V
  after_reads_simp
  rfl

/-- The cosine of each lane is the reference's cosine of its pair. -/
theorem coss_apply (r : Fin 8192) (l : Fin 64) : coss m c (ix2 r l) = Cert.Reference6Ideal.Read.val_main_v62 (F := Ideal) (ix2 r ⟨l.val / 2, by omega⟩) := by
  have h : coss m c = shapeCast S8192x64 (broadcastInDim S8192x32x2 ![0, 1] bcast_S8192x32_S8192x32x2_0_1 (Host.cos (angs m c))) shapeCasts_S8192x32x2_S8192x64 := by
    unfold coss angs V
    after_reads_simp
    rfl
  rw [h, angs_eq]
  exact cos64_apply r l

/-- The sine of each lane is the reference's sine of its pair. -/
theorem sins_apply (r : Fin 8192) (l : Fin 64) : sins m c (ix2 r l) = Cert.Reference6Ideal.Read.val_main_v64 (F := Ideal) (ix2 r ⟨l.val / 2, by omega⟩) := by
  have h : sins m c = shapeCast S8192x64 (broadcastInDim S8192x32x2 ![0, 1] bcast_S8192x32_S8192x32x2_0_1 (Host.sin (angs m c))) shapeCasts_S8192x32x2_S8192x64 := by
    unfold sins angs V
    after_reads_simp
    rfl
  rw [h, angs_eq]
  exact sin64_apply r l

/-- The mask of the even lanes. -/
theorem evens_apply (l : Fin 64) : evens m c (ix2 0 l) = if l.val % 2 = 0 then 1#1 else 0#1 := by
  unfold evens V
  after_reads_at
  revert l
  decide +kernel

/-- The factor of the next lane: minus the sine on even lanes, zero on odd ones. -/
theorem next64_apply (r : Fin 8192) (l : Fin 64) : next64 m c (ix2 r l) = Scalar.select (evens m c (ix2 0 l)) (-(sins m c (ix2 r l))) (0 : EReal) := by
  unfold next64 evens sins V
  after_reads_at
  show Scalar.select _ (-_) (Ideal.ofBits .f32 0x00000000#32) = _
  rw [Ideal.ofBits_zero_f32]

/-- The factor of the previous lane: zero on even lanes, the sine on odd ones. -/
theorem prev64_apply (r : Fin 8192) (l : Fin 64) : prev64 m c (ix2 r l) = Scalar.select (evens m c (ix2 0 l)) (0 : EReal) (sins m c (ix2 r l)) := by
  unfold prev64 evens sins V
  after_reads_at
  show Scalar.select _ (Ideal.ofBits .f32 0x00000000#32) _ = _
  rw [Ideal.ofBits_zero_f32]

/-- The table of cosines: one on the context rows. -/
theorem cosTable (r : Fin 8448) (l : Fin 128) : V m c main_v39 (ix2 r l)
    = if h : r.val < 8192 then coss m c (ix2 ⟨r.val, h⟩ ⟨l.val % 64, by omega⟩) else (1 : EReal) := by
  unfold V
  after_reads_at
  by_cases hl : l.val < 64
  · have e : l.val % 64 = l.val := by omega
    by_cases h : r.val < 8192
    · simp only [hl, h, dite_true, e]
      unfold coss V
      after_reads_simp
    · simp only [hl, h, dite_true, dite_false]
      after_reads_at
  · have e : l.val % 64 = l.val - 64 := by omega
    by_cases h : r.val < 8192
    · simp only [hl, h, dite_true, dite_false, e]
      unfold coss V
      after_reads_simp
    · simp only [hl, h, dite_false]
      after_reads_at

/-- The factors of the next lane: zero on the context rows. -/
theorem nextTable (r : Fin 8448) (l : Fin 128) : V m c main_v42 (ix2 r l)
    = if h : r.val < 8192 then next64 m c (ix2 ⟨r.val, h⟩ ⟨l.val % 64, by omega⟩) else (0 : EReal) := by
  unfold V
  after_reads_at
  by_cases hl : l.val < 64
  · have e : l.val % 64 = l.val := by omega
    by_cases h : r.val < 8192
    · simp only [hl, h, dite_true, e]
      unfold next64 V
      after_reads_simp
    · simp only [hl, h, dite_true, dite_false]
      after_reads_at
  · have e : l.val % 64 = l.val - 64 := by omega
    by_cases h : r.val < 8192
    · simp only [hl, h, dite_true, dite_false, e]
      unfold next64 V
      after_reads_simp
    · simp only [hl, h, dite_false]
      after_reads_at

/-- The factors of the previous lane: zero on the context rows. -/
theorem prevTable (r : Fin 8448) (l : Fin 128) : V m c main_v45 (ix2 r l)
    = if h : r.val < 8192 then prev64 m c (ix2 ⟨r.val, h⟩ ⟨l.val % 64, by omega⟩) else (0 : EReal) := by
  unfold V
  after_reads_at
  by_cases hl : l.val < 64
  · have e : l.val % 64 = l.val := by omega
    by_cases h : r.val < 8192
    · simp only [hl, h, dite_true, e]
      unfold prev64 V
      after_reads_simp
    · simp only [hl, h, dite_true, dite_false]
      after_reads_at
  · have e : l.val % 64 = l.val - 64 := by omega
    by_cases h : r.val < 8192
    · simp only [hl, h, dite_true, dite_false, e]
      unfold prev64 V
      after_reads_simp
    · simp only [hl, h, dite_false]
      after_reads_at

/-- Lane `l` of row `r` of the cosines. -/
def cosAt (r : Fin 8448) (l : Fin 128) : EReal :=
  if h : r.val < 8192 then Cert.Reference6Ideal.Read.val_main_v62 (F := Ideal) (ix2 ⟨r.val, h⟩ ⟨l.val % 64 / 2, by omega⟩) else 1
/-- Lane `l` of row `r` of the factors of the next lane. -/
def nextAt (r : Fin 8448) (l : Fin 128) : EReal :=
  if h : r.val < 8192 then if l.val % 2 = 0 then -Cert.Reference6Ideal.Read.val_main_v64 (F := Ideal) (ix2 ⟨r.val, h⟩ ⟨l.val % 64 / 2, by omega⟩) else 0 else 0
/-- Lane `l` of row `r` of the factors of the previous lane. -/
def prevAt (r : Fin 8448) (l : Fin 128) : EReal :=
  if h : r.val < 8192 then if l.val % 2 = 0 then 0 else Cert.Reference6Ideal.Read.val_main_v64 (F := Ideal) (ix2 ⟨r.val, h⟩ ⟨l.val % 64 / 2, by omega⟩) else 0

/-- The table of cosines, read at one lane. -/
theorem cos_eq (r : Fin 8448) (l : Fin 128) : V m c main_v39 (ix2 r l) = cosAt r l := by
  rw [cosTable]
  simp only [coss_apply, cosAt]

/-- The parity of a lane within its head. -/
theorem parity (l : ℕ) : l % 64 % 2 = l % 2 := by omega

/-- The table of the factors of the next lane, read at one lane. -/
theorem next_eq (r : Fin 8448) (l : Fin 128) : V m c main_v42 (ix2 r l) = nextAt r l := by
  rw [nextTable]
  unfold nextAt
  by_cases h : r.val < 8192
  · simp only [h, dite_true, next64_apply, sins_apply, evens_apply, parity]
    by_cases e : l.val % 2 = 0
    · rw [if_pos e, if_pos e]; rfl
    · rw [if_neg e, if_neg e]; rfl
  · simp only [h, dite_false]

/-- The table of the factors of the previous lane, read at one lane. -/
theorem prev_eq (r : Fin 8448) (l : Fin 128) : V m c main_v45 (ix2 r l) = prevAt r l := by
  rw [prevTable]
  unfold prevAt
  by_cases h : r.val < 8192
  · simp only [h, dite_true, prev64_apply, sins_apply, evens_apply, parity]
    by_cases e : l.val % 2 = 0
    · rw [if_pos e, if_pos e]; rfl
    · rw [if_neg e, if_neg e]; rfl
  · simp only [h, dite_false]

/-- The gain as a row. -/
theorem gain_eq (k : Fin 1024) : V m c main_v46 (ix2 0 k) = (m (c, main_arg2) : FVec Ideal S1024 .f32) (ix1 k) := by
  unfold V
  after_reads_at

/-- The projection, cast. -/
theorem weight_eq (k : Fin 1024) (j : Fin 3072) : V m c main_v0 (ix2 k j) = (m (c, main_arg3) : FVec Ideal S1024x3072 .f32) (ix2 k j) := by
  unfold V
  after_reads_at

end Cert.AttnIn

end
-- ==== Proof.AttnInRef.lean ====
module

public import proofs.«01_k».proof.Proof.AttnInTables
public import proofs.«01_k».proof.Proof.AttnInPay

@[expose] public section

/-! The input projection of the attention: the six results of the reference, as formulas of its arguments. -/

set_option maxRecDepth 16384

noncomputable section

namespace Cert.AttnIn

open Idealize.ShloMosaic Cert.Reference6Ideal Cert.Reference6Ideal.Read
open Cert.Ffn (modulated)

variable (x : FVec Ideal S16896x1024 .f32) (mods : FVec Ideal S8x9x1024 .f32) (g : FVec Ideal S1024 .f32) (w : FVec Ideal S1024x3072 .f32)

/-- The product of token `i` of batch `b` with column `j` of the projection, modulated by the vectors of group `e`. -/
def prodAt (b : Fin 2) (i : Fin 8448) (e : Fin 8) (j : Fin 3072) : EReal :=
  proj (fun k => x (ix2 ⟨b.val * 8448 + i.val, by omega⟩ k)) (fun k => g (ix1 k)) (fun k => mods (ix3 e 3 k)) (fun k => mods (ix3 e 4 k)) (fun k => w (ix2 k j))

/-- The modulated row of a latent token. -/
theorem v26_eq (b : Fin 2) (i : Fin 8192) (k : Fin 1024) : val_main_v26 (F := Ideal) x mods g (ix3 b i k)
    = modulated (fun k => x (ix2 ⟨b.val * 8448 + i.val, by omega⟩ k)) (fun k => g (ix1 k)) (fun k => mods (ix3 ⟨b.val, by omega⟩ 3 k))
        (fun k => mods (ix3 ⟨b.val, by omega⟩ 4 k)) k := by
  unfold modulated
  pointwise [val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]

/-- The modulated row of a context token. -/
theorem v39_eq (b : Fin 2) (i : Fin 256) (k : Fin 1024) : val_main_v39 (F := Ideal) x mods g (ix3 b i k)
    = modulated (fun k => x (ix2 ⟨b.val * 8448 + (8192 + i.val), by omega⟩ k)) (fun k => g (ix1 k)) (fun k => mods (ix3 2 3 k))
        (fun k => mods (ix3 2 4 k)) k := by
  unfold modulated
  pointwise [val_main_v39, val_main_v38, val_main_v37, val_main_v36, val_main_v35, val_main_v34, val_main_v33, val_main_v32, val_main_v31, val_main_v30,
    val_main_v29, val_main_v28, val_main_v27, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_3]

/-- The products of the latent tokens. -/
theorem v66_eq (b : Fin 2) (i : Fin 8192) (j : Fin 3072) : val_main_v66 (F := Ideal) x mods g w (ix3 b i j)
    = prodAt x mods g w b ⟨i.val, by omega⟩ ⟨b.val, by omega⟩ j := by
  have h : val_main_v66 (F := Ideal) x mods g w (ix3 b i j) = ∑ k : Fin 1024, val_main_v26 (F := Ideal) x mods g (ix3 b i k) * w (ix2 k j) := by
    unfold val_main_v66
    generalize val_main_v26 (F := Ideal) x mods g = n
    pointwise []
  rw [h]
  simp only [v26_eq, prodAt, proj]

/-- The products of the context tokens. -/
theorem v67_eq (b : Fin 2) (i : Fin 256) (j : Fin 3072) : val_main_v67 (F := Ideal) x mods g w (ix3 b i j)
    = prodAt x mods g w b ⟨8192 + i.val, by omega⟩ 2 j := by
  have h : val_main_v67 (F := Ideal) x mods g w (ix3 b i j) = ∑ k : Fin 1024, val_main_v39 (F := Ideal) x mods g (ix3 b i k) * w (ix2 k j) := by
    unfold val_main_v67
    generalize val_main_v39 (F := Ideal) x mods g = n
    pointwise []
  rw [h]
  simp only [v39_eq, prodAt, proj]

/-- The group of token `i` of batch `b`: its batch for a latent token, the third for a context token. -/
def groupAt (b : Fin 2) (i : Fin 8448) : Fin 8 := if i.val < 8192 then ⟨b.val, by omega⟩ else 2

/-- The product of token `i` of batch `b` with column `j`. -/
abbrev tok (b : Fin 2) (i : Fin 8448) (j : Fin 3072) : EReal := prodAt x mods g w b i (groupAt b i) j

variable {x mods g w}

/-- The product of a latent token, wherever its indices come from. -/
theorem v66_at {b : Fin 2} {i : Fin 8448} {j : Fin 3072} {b' : Fin 2} {i' : Fin 8192} {j' : Fin 3072} (hb : b'.val = b.val) (hi : i'.val = i.val) (hj : j'.val = j.val) :
    val_main_v66 (F := Ideal) x mods g w (ix3 b' i' j') = tok x mods g w b i j := by
  obtain rfl : b' = b := Fin.ext hb
  obtain rfl : j' = j := Fin.ext hj
  have h : i.val < 8192 := hi ▸ i'.isLt
  obtain rfl : i' = ⟨i.val, h⟩ := Fin.ext hi
  rw [v66_eq]
  unfold tok groupAt
  rw [if_pos h]

/-- The product of a context token, wherever its indices come from. -/
theorem v67_at {b : Fin 2} {i : Fin 8448} {j : Fin 3072} {b' : Fin 2} {i' : Fin 256} {j' : Fin 3072} (hb : b'.val = b.val) (hi : 8192 + i'.val = i.val) (hj : j'.val = j.val) :
    val_main_v67 (F := Ideal) x mods g w (ix3 b' i' j') = tok x mods g w b i j := by
  obtain rfl : b' = b := Fin.ext hb
  obtain rfl : j' = j := Fin.ext hj
  rw [v67_eq]
  unfold tok groupAt
  rw [if_neg (by omega), show (⟨8192 + i'.val, by omega⟩ : Fin 8448) = i from Fin.ext hi]

/-- The scaled first queries of the latent tokens. -/
theorem v86_at {b : Fin 2} {i : Fin 8448} {R : Fin 16384} (j : Fin 512) (hb : R.val / 8192 = b.val) (hi : R.val % 8192 = i.val) : val_main_v86 (F := Ideal) x mods g w (ix2 R j)
    = tok x mods g w b i ⟨j.val, by omega⟩ * Ideal.ofBits .f32 0x3E000000#32 := by
  have hu := @v66_at x mods g w
  have hq : ∀ k, val_main_v84 (F := Ideal) k = Ideal.ofBits .f32 0x3E000000#32 := fun k => (val_main_v84_apply k).trans (val_main_cst_7_apply _)
  unfold val_main_v86 val_main_v85 val_main_v68
  generalize val_main_v66 (F := Ideal) x mods g w = u at hu ⊢
  generalize val_main_v84 (F := Ideal) = q at hq ⊢
  pointwise []
  rw [hq]
  exact congrArg (· * _) (hu hb hi rfl)

/-- The scaled first queries of the context tokens. -/
theorem v89_at {b : Fin 2} {i : Fin 8448} {R : Fin 512} (j : Fin 512) (hb : R.val / 256 = b.val) (hi : 8192 + R.val % 256 = i.val) : val_main_v89 (F := Ideal) x mods g w (ix2 R j)
    = tok x mods g w b i ⟨j.val, by omega⟩ * Ideal.ofBits .f32 0x3E000000#32 := by
  have hu := @v67_at x mods g w
  have hq : ∀ k, val_main_v87 (F := Ideal) k = Ideal.ofBits .f32 0x3E000000#32 := fun k => (val_main_v87_apply k).trans (val_main_cst_8_apply _)
  unfold val_main_v89 val_main_v88 val_main_v74
  generalize val_main_v67 (F := Ideal) x mods g w = u at hu ⊢
  generalize val_main_v87 (F := Ideal) = q at hq ⊢
  pointwise []
  rw [hq]
  exact congrArg (· * _) (hu hb hi rfl)

/-- Where a context token is among the queries. -/
theorem context_row (R b i : ℕ) (h : ¬ i < 8192) (hi : i < 8448) (hb : b < 2) (hR : R = 16384 + b * 256 + (i - 8192)) :
    ¬ R < 16384 ∧ R - 16384 < 512 ∧ (R - 16384) / 256 = b ∧ 8192 + (R - 16384) % 256 = i := by
  obtain ⟨k, rfl⟩ : ∃ k, i = 8192 + k := ⟨i - 8192, by omega⟩
  obtain ⟨q, rfl⟩ : ∃ q, R = 16384 + q := ⟨R - 16384, by omega⟩
  rw [Nat.add_sub_cancel_left] at hR ⊢
  have : q = b * 256 + k := by omega
  refine ⟨by omega, by omega, by omega, by omega⟩

section Tokens

variable (b : Fin 2) (i : Fin 8448) (j : Fin 512)

/-- The first keys, at a token. -/
theorem v94_eq (R : Fin 16896) (hR : R.val = b.val * 8448 + i.val) : val_main_v94 (F := Ideal) x mods g w (ix2 R j) = tok x mods g w b i ⟨512 + j.val, by omega⟩ := by
  have hu := @v66_at x mods g w
  have hv := @v67_at x mods g w
  unfold val_main_v94 val_main_v93 val_main_v92 val_main_v69 val_main_v75
  generalize val_main_v66 (F := Ideal) x mods g w = u at hu ⊢
  generalize val_main_v67 (F := Ideal) x mods g w = v at hv ⊢
  pointwise []
  have h1 : R.val / 8448 = b.val := by omega
  have h2 : R.val % 8448 = i.val := by omega
  split
  · exact hu (by show R.val / 8448 = _; omega) (by show R.val % 8448 = _; omega) rfl
  · exact hv (by show R.val / 8448 = _; omega) (by show 8192 + (R.val % 8448 - 8192) = _; omega) rfl

/-- The first values, at a token. -/
theorem v97_eq (R : Fin 16896) (hR : R.val = b.val * 8448 + i.val) : val_main_v97 (F := Ideal) x mods g w (ix2 R j) = tok x mods g w b i ⟨1024 + j.val, by omega⟩ := by
  have hu := @v66_at x mods g w
  have hv := @v67_at x mods g w
  unfold val_main_v97 val_main_v96 val_main_v95 val_main_v70 val_main_v76
  generalize val_main_v66 (F := Ideal) x mods g w = u at hu ⊢
  generalize val_main_v67 (F := Ideal) x mods g w = v at hv ⊢
  pointwise []
  have h1 : R.val / 8448 = b.val := by omega
  have h2 : R.val % 8448 = i.val := by omega
  split
  · exact hu (by show R.val / 8448 = _; omega) (by show R.val % 8448 = _; omega) rfl
  · exact hv (by show R.val / 8448 = _; omega) (by show 8192 + (R.val % 8448 - 8192) = _; omega) rfl

/-- The second values, at token `r` of tile `t`, transposed. -/
theorem v83_eq (t : Fin 66) (r : Fin 256) (hR : t.val * 256 + r.val = b.val * 8448 + i.val) :
    val_main_v83 (F := Ideal) x mods g w (ix3 t j r) = tok x mods g w b i ⟨2560 + j.val, by omega⟩ := by
  have hu := @v66_at x mods g w
  have hv := @v67_at x mods g w
  unfold val_main_v83 val_main_v82 val_main_v81 val_main_v80 val_main_v73 val_main_v79
  generalize val_main_v66 (F := Ideal) x mods g w = u at hu ⊢
  generalize val_main_v67 (F := Ideal) x mods g w = v at hv ⊢
  pointwise []
  have h1 : t.val / 33 = b.val := by omega
  have h2 : t.val % 33 * 256 + r.val = i.val := by omega
  split
  · exact hu h1 h2 rfl
  · exact hv h1 (by show 8192 + (t.val % 33 * 256 + r.val - 8192) = _; omega) rfl

/-- The first queries, at a token. -/
theorem v91_eq (R : Fin 16896) (hR : R.val = if i.val < 8192 then b.val * 8192 + i.val else 16384 + b.val * 256 + (i.val - 8192)) :
    val_main_v91 (F := Ideal) x mods g w (ix2 R j) = tok x mods g w b i ⟨j.val, by omega⟩ * Ideal.ofBits .f32 0x3E000000#32 := by
  have hu := @v86_at x mods g w
  have hv := @v89_at x mods g w
  unfold val_main_v91 val_main_v90
  generalize val_main_v86 (F := Ideal) x mods g w = u at hu ⊢
  generalize val_main_v89 (F := Ideal) x mods g w = v at hv ⊢
  pointwise []
  by_cases h : i.val < 8192
  · rw [if_pos h] at hR
    have h1 : R.val / 8192 = b.val := by omega
    have h2 : R.val % 8192 = i.val := by omega
    rw [dif_pos (by omega)]
    exact hu (R := ⟨R.val, by omega⟩) j h1 h2
  · rw [if_neg h] at hR
    have hc := context_row _ _ _ h i.isLt b.isLt hR
    rw [dif_neg hc.1]
    exact hv (R := ⟨R.val - 16384, hc.2.1⟩) j hc.2.2.1 hc.2.2.2

end Tokens

/-- The rotation of a latent row, as the reference writes it. -/
def pairs (z : Fin 512 → EReal) (cs sn : Fin 32 → EReal) (j : Fin 512) : EReal :=
  if j.val % 2 < 1 then
    z ⟨j.val / 64 * 64 + j.val / 2 % 32 * 2, by omega⟩ * cs ⟨j.val / 2 % 32, by omega⟩ - z ⟨j.val / 64 * 64 + j.val / 2 % 32 * 2 + 1, by omega⟩ * sn ⟨j.val / 2 % 32, by omega⟩
  else
    z ⟨j.val / 64 * 64 + j.val / 2 % 32 * 2, by omega⟩ * sn ⟨j.val / 2 % 32, by omega⟩ + z ⟨j.val / 64 * 64 + j.val / 2 % 32 * 2 + 1, by omega⟩ * cs ⟨j.val / 2 % 32, by omega⟩

/-- The rotation of the queries. -/
theorem v120_eq (b : Fin 2) (i : Fin 8192) (j : Fin 512) : val_main_v120 (F := Ideal) x mods g w (ix3 b i j)
    = pairs (fun j => tok x mods g w b ⟨i.val, by omega⟩ ⟨1536 + j.val, by omega⟩) (fun f => val_main_v62 (F := Ideal) (ix2 i f)) (fun f => val_main_v64 (F := Ideal) (ix2 i f)) j := by
  have hu : ∀ j : Fin 3072, val_main_v66 (F := Ideal) x mods g w (ix3 b i j) = tok x mods g w b ⟨i.val, by omega⟩ j := fun j => v66_at rfl rfl rfl
  simp only [← hu, pairs]
  unfold val_main_v120 val_main_v119 val_main_v118 val_main_v117 val_main_v116 val_main_v115 val_main_v109 val_main_v112 val_main_v108 val_main_v105
    val_main_v102 val_main_v101 val_main_v100 val_main_v99 val_main_v98 val_main_v71 val_main_v104 val_main_v103 val_main_v107 val_main_v106 val_main_v111 val_main_v110
    val_main_v114 val_main_v113 val_main_v63 val_main_v65
  clear hu
  generalize val_main_v66 (F := Ideal) x mods g w = u
  generalize val_main_v62 (F := Ideal) = cs
  generalize val_main_v64 (F := Ideal) = sn
  pointwise []
  by_cases h : j.val % 2 < 1
  · exact (dif_pos h).trans (if_pos h).symm
  · exact (dif_neg h).trans (if_neg h).symm

/-- The rotation of the keys. -/
theorem v151_eq (b : Fin 2) (i : Fin 8192) (j : Fin 512) : val_main_v151 (F := Ideal) x mods g w (ix3 b i j)
    = pairs (fun j => tok x mods g w b ⟨i.val, by omega⟩ ⟨2048 + j.val, by omega⟩) (fun f => val_main_v62 (F := Ideal) (ix2 i f)) (fun f => val_main_v64 (F := Ideal) (ix2 i f)) j := by
  have hu : ∀ j : Fin 3072, val_main_v66 (F := Ideal) x mods g w (ix3 b i j) = tok x mods g w b ⟨i.val, by omega⟩ j := fun j => v66_at rfl rfl rfl
  simp only [← hu, pairs]
  unfold val_main_v151 val_main_v150 val_main_v149 val_main_v148 val_main_v147 val_main_v146 val_main_v140 val_main_v143 val_main_v139 val_main_v136
    val_main_v133 val_main_v132 val_main_v131 val_main_v130 val_main_v129 val_main_v72 val_main_v135 val_main_v134 val_main_v138 val_main_v137 val_main_v142 val_main_v141
    val_main_v145 val_main_v144 val_main_v63 val_main_v65
  clear hu
  generalize val_main_v66 (F := Ideal) x mods g w = u
  generalize val_main_v62 (F := Ideal) = cs
  generalize val_main_v64 (F := Ideal) = sn
  pointwise []
  by_cases h : j.val % 2 < 1
  · exact (dif_pos h).trans (if_pos h).symm
  · exact (dif_neg h).trans (if_neg h).symm

/-- On a latent row the body's rotation is the reference's. -/
theorem turned_latent (z : Fin 512 → EReal) (i : Fin 8448) (h : i.val < 8192) (j : Fin 512) : turned z (cosAt i) (nextAt i) (prevAt i) j
    = pairs z (fun f => val_main_v62 (F := Ideal) (ix2 ⟨i.val, h⟩ f)) (fun f => val_main_v64 (F := Ideal) (ix2 ⟨i.val, h⟩ f)) j := by
  unfold turned turn pairs cosAt nextAt prevAt
  simp only [h, dite_true]
  generalize val_main_v62 (F := Ideal) = cs
  generalize val_main_v64 (F := Ideal) = sn
  have hj := j.isLt
  by_cases e : j.val % 2 = 0
  · have e' : j.val % 128 % 2 = 0 := by omega
    rw [if_pos e', if_pos e', if_pos (by omega : j.val % 2 < 1), mul_zero, add_zero, mul_neg, sub_eq_add_neg]
    have e1 : (⟨j.val / 128 * 128 + j.val % 128, by omega⟩ : Fin 512) = ⟨j.val / 64 * 64 + j.val / 2 % 32 * 2, by omega⟩ := Fin.ext (by show j.val / 128 * 128 + j.val % 128 = j.val / 64 * 64 + j.val / 2 % 32 * 2; omega)
    have e2 : (⟨j.val / 128 * 128 + (j.val % 128 + 128 - 127) % 128, by omega⟩ : Fin 512) = ⟨j.val / 64 * 64 + j.val / 2 % 32 * 2 + 1, by omega⟩ := Fin.ext (by show j.val / 128 * 128 + (j.val % 128 + 128 - 127) % 128 = j.val / 64 * 64 + j.val / 2 % 32 * 2 + 1; omega)
    have e3 : (⟨j.val % 128 % 64 / 2, by omega⟩ : Fin 32) = ⟨j.val / 2 % 32, by omega⟩ := Fin.ext (by show j.val % 128 % 64 / 2 = j.val / 2 % 32; omega)
    rw [e1, e2, e3]
  · have e' : ¬ j.val % 128 % 2 = 0 := by omega
    rw [if_neg e', if_neg e', if_neg (by omega : ¬ j.val % 2 < 1), mul_zero, add_zero, add_comm]
    have e1 : (⟨j.val / 128 * 128 + j.val % 128, by omega⟩ : Fin 512) = ⟨j.val / 64 * 64 + j.val / 2 % 32 * 2 + 1, by omega⟩ := Fin.ext (by show j.val / 128 * 128 + j.val % 128 = j.val / 64 * 64 + j.val / 2 % 32 * 2 + 1; omega)
    have e2 : (⟨j.val / 128 * 128 + (j.val % 128 + 128 - 1) % 128, by omega⟩ : Fin 512) = ⟨j.val / 64 * 64 + j.val / 2 % 32 * 2, by omega⟩ := Fin.ext (by show j.val / 128 * 128 + (j.val % 128 + 128 - 1) % 128 = j.val / 64 * 64 + j.val / 2 % 32 * 2; omega)
    have e3 : (⟨j.val % 128 % 64 / 2, by omega⟩ : Fin 32) = ⟨j.val / 2 % 32, by omega⟩ := Fin.ext (by show j.val % 128 % 64 / 2 = j.val / 2 % 32; omega)
    rw [e1, e2, e3]

/-- On a context row the body's rotation changes nothing. -/
theorem turned_context (z : Fin 512 → EReal) (i : Fin 8448) (h : ¬ i.val < 8192) (j : Fin 512) : turned z (cosAt i) (nextAt i) (prevAt i) j = z j := by
  unfold turned turn cosAt nextAt prevAt
  simp only [h, dite_false, mul_zero, add_zero, mul_one]
  exact congrArg z (Fin.ext (by show j.val / 128 * 128 + j.val % 128 = j.val; omega))

/-- The rotated queries of a latent token, wherever its indices come from. -/
theorem v120_at {b : Fin 2} {i : Fin 8448} {b' : Fin 2} {i' : Fin 8192} (j : Fin 512) (hb : b'.val = b.val) (hi : i'.val = i.val) : val_main_v120 (F := Ideal) x mods g w (ix3 b' i' j)
    = turned (fun j => tok x mods g w b i ⟨1536 + j.val, by omega⟩) (cosAt i) (nextAt i) (prevAt i) j := by
  obtain rfl : b' = b := Fin.ext hb
  have h : i.val < 8192 := hi ▸ i'.isLt
  obtain rfl : i' = ⟨i.val, h⟩ := Fin.ext hi
  rw [turned_latent _ _ h, v120_eq]

/-- The rotated keys of a latent token, wherever its indices come from. -/
theorem v151_at {b : Fin 2} {i : Fin 8448} {b' : Fin 2} {i' : Fin 8192} (j : Fin 512) (hb : b'.val = b.val) (hi : i'.val = i.val) : val_main_v151 (F := Ideal) x mods g w (ix3 b' i' j)
    = turned (fun j => tok x mods g w b i ⟨2048 + j.val, by omega⟩) (cosAt i) (nextAt i) (prevAt i) j := by
  obtain rfl : b' = b := Fin.ext hb
  have h : i.val < 8192 := hi ▸ i'.isLt
  obtain rfl : i' = ⟨i.val, h⟩ := Fin.ext hi
  rw [turned_latent _ _ h, v151_eq]

/-- The scaled second queries of the latent tokens. -/
theorem v123_at {b : Fin 2} {i : Fin 8448} {R : Fin 16384} (j : Fin 512) (hb : R.val / 8192 = b.val) (hi : R.val % 8192 = i.val) : val_main_v123 (F := Ideal) x mods g w (ix2 R j)
    = turned (fun j => tok x mods g w b i ⟨1536 + j.val, by omega⟩) (cosAt i) (nextAt i) (prevAt i) j * Ideal.ofBits .f32 0x3E000000#32 := by
  have key : val_main_v123 (F := Ideal) x mods g w (ix2 R j)
      = val_main_v120 (F := Ideal) x mods g w (ix3 ⟨R.val / 8192, by omega⟩ ⟨R.val % 8192, by omega⟩ j) * Ideal.ofBits .f32 0x3E000000#32 := by
    have hq : ∀ k, val_main_v121 (F := Ideal) k = Ideal.ofBits .f32 0x3E000000#32 := fun k => (val_main_v121_apply k).trans (val_main_cst_9_apply _)
    have hi : idx_main_v123 (ix2 R j) = ix3 ⟨R.val / 8192, by omega⟩ ⟨R.val % 8192, by omega⟩ j := funext fun a => by
      match a with
      | ⟨0, _⟩ => exact Fin.ext (by show _ = R.val / 8192; simp [idx_main_v123]; omega)
      | ⟨1, _⟩ => exact Fin.ext (by show _ = R.val % 8192; simp [idx_main_v123]; omega)
      | ⟨2, _⟩ => exact Fin.ext (by show _ = j.val; simp [idx_main_v123])
    rw [val_main_v123_apply, hi, val_main_v122_apply, hq]
    generalize val_main_v120 (F := Ideal) x mods g w = u
    rfl
  rw [key, v120_at j hb hi]

/-- The scaled second queries of the context tokens. -/
theorem v126_at {b : Fin 2} {i : Fin 8448} {R : Fin 512} (j : Fin 512) (hb : R.val / 256 = b.val) (hi : 8192 + R.val % 256 = i.val) : val_main_v126 (F := Ideal) x mods g w (ix2 R j)
    = turned (fun j => tok x mods g w b i ⟨1536 + j.val, by omega⟩) (cosAt i) (nextAt i) (prevAt i) j * Ideal.ofBits .f32 0x3E000000#32 := by
  have hu := @v67_at x mods g w
  have hq : ∀ k, val_main_v124 (F := Ideal) k = Ideal.ofBits .f32 0x3E000000#32 := fun k => (val_main_v124_apply k).trans (val_main_cst_10_apply _)
  unfold val_main_v126 val_main_v125 val_main_v77
  generalize val_main_v67 (F := Ideal) x mods g w = u at hu ⊢
  generalize val_main_v124 (F := Ideal) = q at hq ⊢
  pointwise []
  rw [hq, turned_context _ _ (by omega)]
  exact congrArg (· * _) (hu hb hi rfl)

section Rotated

variable (b : Fin 2) (i : Fin 8448) (j : Fin 512)

/-- The second keys, at a token. -/
theorem v154_eq (R : Fin 16896) (hR : R.val = b.val * 8448 + i.val) : val_main_v154 (F := Ideal) x mods g w (ix2 R j)
    = turned (fun j => tok x mods g w b i ⟨2048 + j.val, by omega⟩) (cosAt i) (nextAt i) (prevAt i) j := by
  have hu := @v151_at x mods g w
  have hv := @v67_at x mods g w
  unfold val_main_v154 val_main_v153 val_main_v152 val_main_v78
  generalize val_main_v151 (F := Ideal) x mods g w = u at hu ⊢
  generalize val_main_v67 (F := Ideal) x mods g w = v at hv ⊢
  pointwise []
  have h1 : R.val / 8448 = b.val := by omega
  have h2 : R.val % 8448 = i.val := by omega
  by_cases h : i.val < 8192
  · rw [dif_pos (by omega)]
    exact hu _ h1 h2
  · rw [dif_neg (by omega), turned_context _ _ h]
    exact hv h1 (by show 8192 + (R.val % 8448 - 8192) = _; omega) rfl

/-- The second queries, at a token. -/
theorem v128_eq (R : Fin 16896) (hR : R.val = if i.val < 8192 then b.val * 8192 + i.val else 16384 + b.val * 256 + (i.val - 8192)) :
    val_main_v128 (F := Ideal) x mods g w (ix2 R j) = turned (fun j => tok x mods g w b i ⟨1536 + j.val, by omega⟩) (cosAt i) (nextAt i) (prevAt i) j * Ideal.ofBits .f32 0x3E000000#32 := by
  have hu := @v123_at x mods g w
  have hv := @v126_at x mods g w
  unfold val_main_v128 val_main_v127
  generalize val_main_v123 (F := Ideal) x mods g w = u at hu ⊢
  generalize val_main_v126 (F := Ideal) x mods g w = v at hv ⊢
  pointwise []
  by_cases h : i.val < 8192
  · rw [if_pos h] at hR
    have h1 : R.val / 8192 = b.val := by omega
    have h2 : R.val % 8192 = i.val := by omega
    rw [dif_pos (by omega)]
    exact hu (R := ⟨R.val, by omega⟩) j h1 h2
  · rw [if_neg h] at hR
    have hc := context_row _ _ _ h i.isLt b.isLt hR
    rw [dif_neg hc.1]
    exact hv (R := ⟨R.val - 16384, hc.2.1⟩) j hc.2.2.1 hc.2.2.2

end Rotated

end Cert.AttnIn

end
-- ==== Proof.AttnInValue.lean ====
module

public import proofs.«01_k».proof.Proof.AttnInOut
public import proofs.«01_k».proof.Proof.AttnInRef

@[expose] public section

/-! The input projection of the attention with its rotation: the six result arrays are the reference's, on every input. -/

set_option maxRecDepth 16384

noncomputable section

namespace Cert.AttnIn

open Idealize.ShloMosaic Cert.Kernel6Ideal Cert.Kernel6Ideal.Gen
open Idealize.ShloMosaic.TcCoe Idealize.SL.Sem

/-- The modulation row group of tile `t`: its batch, or the context's. -/
def group (t : ℕ) : ℕ := if t % 33 = 32 then 2 else t / 33

/-- Where the queries of tile `t` are written: latent tiles first. -/
def queryTile (t : ℕ) : ℕ := if t % 33 = 32 then 64 + t / 33 else t / 33 * 32 + t % 33

/-- Which blocks grid point `t` reads: its rows, its group's modulation, and its rows of the tables. -/
theorem idx : ∀ t : Fin cfg0.N, win0_0.index t = ![t.val, 0] ∧ win0_1.index t = ![group t.val, 0, 0] ∧ win0_2.index t = ![0, 0] ∧ win0_3.index t = ![0, 0]
    ∧ win0_4.index t = ![t.val % 33, 0] ∧ win0_5.index t = ![t.val % 33, 0] ∧ win0_6.index t = ![t.val % 33, 0] ∧ t.val < 66 :=
  (by decide +kernel : ∀ t : Fin grid0.N, _)

/-- Which blocks grid point `t` writes. -/
theorem odx : ∀ t : Fin cfg0.N, win0_7.index t = ![queryTile t.val, 0] ∧ win0_8.index t = ![t.val, 0] ∧ win0_9.index t = ![t.val, 0]
    ∧ win0_10.index t = ![queryTile t.val, 0] ∧ win0_11.index t = ![t.val, 0] ∧ win0_12.index t = ![t.val, 0, 0] :=
  (by decide +kernel : ∀ t : Fin grid0.N, _)

variable (m : (ℓ : Loc nD τ sig) → Buf (Elt Ideal) ℓ) (c : Dev nD) (t : Fin cfg0.N)

/-- The four arguments. -/
abbrev X : FVec Ideal S16896x1024 .f32 := m ((c : Thread nD τ).loc main_arg0)
abbrev M : FVec Ideal S8x9x1024 .f32 := m ((c : Thread nD τ).loc main_arg1)
abbrev G : FVec Ideal S1024 .f32 := m ((c : Thread nD τ).loc main_arg2)
abbrev W : FVec Ideal S1024x3072 .f32 := m ((c : Thread nD τ).loc main_arg3)

/-- The block of rows. -/
theorem blk0 (j : Fin 256) (k : Fin 1024) (r : Fin 16896) (hr : r.val = t.val * 256 + j.val) : iblk m c 0 t (ix2 j k) = X m c (ix2 r k) := by
  blk_ext [iblk, V, idx t]

/-- The block of modulation vectors. -/
theorem blk1 (e : Fin 9) (k : Fin 1024) (b : Fin 8) (hb : b.val = group t.val) : iblk m c 1 t (ix3 0 e k) = M m c (ix3 b e k) := by
  blk_ext [iblk, V, idx t]

/-- The gain. -/
theorem blk2 (k : Fin 1024) : iblk m c 2 t (ix2 0 k) = G m c (ix1 k) := by
  refine Eq.trans ?_ (gain_eq m c k)
  blk_ext! [iblk, idx t]

/-- The projection. -/
theorem blk3 (k : Fin 1024) (j : Fin 3072) : iblk m c 3 t (ix2 k j) = W m c (ix2 k j) := by
  refine Eq.trans ?_ (weight_eq m c k j)
  blk_ext! [iblk, idx t]

/-- The block of cosines. -/
theorem blk4 (j : Fin 256) (l : Fin 128) (i : Fin 8448) (hi : i.val = t.val % 33 * 256 + j.val) : iblk m c 4 t (ix2 j l) = cosAt i l := by
  refine Eq.trans ?_ (cos_eq m c i l)
  blk_ext! [iblk, idx t]

/-- The block of next factors. -/
theorem blk5 (j : Fin 256) (l : Fin 128) (i : Fin 8448) (hi : i.val = t.val % 33 * 256 + j.val) : iblk m c 5 t (ix2 j l) = nextAt i l := by
  refine Eq.trans ?_ (next_eq m c i l)
  blk_ext! [iblk, idx t]

/-- The block of previous factors. -/
theorem blk6 (j : Fin 256) (l : Fin 128) (i : Fin 8448) (hi : i.val = t.val % 33 * 256 + j.val) : iblk m c 6 t (ix2 j l) = prevAt i l := by
  refine Eq.trans ?_ (prev_eq m c i l)
  blk_ext! [iblk, idx t]

/-- A row of a tile is a token of a batch. -/
theorem row_token (t r : ℕ) : t * 256 + r = t / 33 * 8448 + (t % 33 * 256 + r) := by omega

/-- A row of a tile's queries is a token of a batch, latent tokens first. -/
theorem row_query (t r : ℕ) (hr : r < 256) : queryTile t * 256 + r
    = if t % 33 * 256 + r < 8192 then t / 33 * 8192 + (t % 33 * 256 + r) else 16384 + t / 33 * 256 + (t % 33 * 256 + r - 8192) := by
  unfold queryTile
  by_cases h : t % 33 = 32
  · rw [if_pos h, if_neg (by omega), h]
    omega
  · rw [if_neg h, if_pos (by omega)]
    omega

/-- The query tiles are among the results'. -/
theorem query_lt (t : ℕ) (ht : t < 66) : queryTile t < 66 := by
  unfold queryTile
  split <;> omega

/-- The group of a tile's tokens. -/
theorem group_token (t r : ℕ) (hr : r < 256) : group t = if t % 33 * 256 + r < 8192 then t / 33 else 2 := by
  unfold group
  by_cases h : t % 33 = 32
  · rw [if_pos h, if_neg (by omega)]
  · rw [if_neg h, if_pos (by omega)]

/-- The batch of a tile. -/
theorem batch_lt (t : ℕ) (ht : t < 66) : t / 33 < 2 := by omega

/-- The token of a row. -/
theorem token_lt (t r : ℕ) (hr : r < 256) : t % 33 * 256 + r < 8448 := by omega

/-- The tile's products are the tokens'. -/
theorem prod_eq (r : Fin 256) (j j' : Fin 3072) (hj : j.val = j'.val) (b : Fin 2) (i : Fin 8448) (hb : t.val / 33 = b.val) (hi : i.val = t.val % 33 * 256 + r.val) :
    prod (iblk m c 0 t) (iblk m c 1 t) (iblk m c 2 t) (iblk m c 3 t) r j = tok (X m c) (M m c) (G m c) (W m c) b i j' := by
  obtain rfl : j = j' := Fin.ext hj
  have hg : (groupAt b i).val = group t.val := by
    rw [group_token _ _ r.isLt, ← hi, hb]
    unfold groupAt
    split <;> rfl
  have hx : b.val * 8448 + i.val = t.val * 256 + r.val := by rw [row_token, ← hi, hb]
  unfold prod tok prodAt
  exact proj_congr (funext fun k => blk0 m c t r k _ hx) (funext fun k => blk2 m c t k) (funext fun k => blk1 m c t 3 k _ hg)
    (funext fun k => blk1 m c t 4 k _ hg) (funext fun k => blk3 m c t k j)

/-- The first queries. -/
theorem final7 : (dats m 0 c).arrAt 7 (cfgs 0).N
    = Cert.Reference6Ideal.Read.val_main_v91 (F := Ideal) (X m c) (M m c) (G m c) (W m c) := by
  refine (dats m 0 c).arrAt_eq_of_covers 7 _ (by decide +kernel) fun t _ y => ?_
  blk_simp
  rw [after0_7]
  obtain ⟨r, j, rfl⟩ : ∃ (r : Fin 256) (j : Fin 512), y = ix2 r j := ⟨y 0, y 1, funext fun a => by match a with | ⟨0, _⟩ => rfl | ⟨1, _⟩ => rfl⟩
  have ht : t.val < 66 := (idx t).2.2.2.2.2.2.2
  have hq : queryTile t.val < 66 := query_lt _ ht
  refine (out7_apply r j).trans ?_
  have hy : ((cfg0.win 7).blk t).view.emb (ix2 r j) = ix2 (⟨queryTile t.val * 256 + r.val, by omega⟩ : Fin 16896) j := by
    blk_ext [odx t]
  rw [hy]
  refine Eq.trans ?_ (v91_eq ⟨t.val / 33, batch_lt _ ht⟩ ⟨t.val % 33 * 256 + r.val, token_lt _ _ r.isLt⟩ j _ (row_query _ _ r.isLt)).symm
  exact congrArg (· * _) (prod_eq m c t r _ _ (Nat.zero_add _) _ _ rfl rfl)

/-- The first keys. -/
theorem final8 : (dats m 0 c).arrAt 8 (cfgs 0).N
    = Cert.Reference6Ideal.Read.val_main_v94 (F := Ideal) (X m c) (M m c) (G m c) (W m c) := by
  refine (dats m 0 c).arrAt_eq_of_covers 8 _ (by decide +kernel) fun t _ y => ?_
  blk_simp
  rw [after0_8]
  obtain ⟨r, j, rfl⟩ : ∃ (r : Fin 256) (j : Fin 512), y = ix2 r j := ⟨y 0, y 1, funext fun a => by match a with | ⟨0, _⟩ => rfl | ⟨1, _⟩ => rfl⟩
  have ht : t.val < 66 := (idx t).2.2.2.2.2.2.2
  have hq : t.val < 66 := ht
  refine (out8_apply r j).trans ?_
  have hy : ((cfg0.win 8).blk t).view.emb (ix2 r j) = ix2 (⟨t.val * 256 + r.val, by omega⟩ : Fin 16896) j := by
    blk_ext [odx t]
  rw [hy]
  refine Eq.trans ?_ (v94_eq ⟨t.val / 33, batch_lt _ ht⟩ ⟨t.val % 33 * 256 + r.val, token_lt _ _ r.isLt⟩ j _ (row_token _ _)).symm
  exact prod_eq m c t r _ _ rfl _ _ rfl rfl

/-- The first values. -/
theorem final9 : (dats m 0 c).arrAt 9 (cfgs 0).N
    = Cert.Reference6Ideal.Read.val_main_v97 (F := Ideal) (X m c) (M m c) (G m c) (W m c) := by
  refine (dats m 0 c).arrAt_eq_of_covers 9 _ (by decide +kernel) fun t _ y => ?_
  blk_simp
  rw [after0_9]
  obtain ⟨r, j, rfl⟩ : ∃ (r : Fin 256) (j : Fin 512), y = ix2 r j := ⟨y 0, y 1, funext fun a => by match a with | ⟨0, _⟩ => rfl | ⟨1, _⟩ => rfl⟩
  have ht : t.val < 66 := (idx t).2.2.2.2.2.2.2
  have hq : t.val < 66 := ht
  refine (out9_apply r j).trans ?_
  have hy : ((cfg0.win 9).blk t).view.emb (ix2 r j) = ix2 (⟨t.val * 256 + r.val, by omega⟩ : Fin 16896) j := by
    blk_ext [odx t]
  rw [hy]
  refine Eq.trans ?_ (v97_eq ⟨t.val / 33, batch_lt _ ht⟩ ⟨t.val % 33 * 256 + r.val, token_lt _ _ r.isLt⟩ j _ (row_token _ _)).symm
  exact prod_eq m c t r _ _ rfl _ _ rfl rfl

/-- The second queries. -/
theorem final10 : (dats m 0 c).arrAt 10 (cfgs 0).N
    = Cert.Reference6Ideal.Read.val_main_v128 (F := Ideal) (X m c) (M m c) (G m c) (W m c) := by
  refine (dats m 0 c).arrAt_eq_of_covers 10 _ (by decide +kernel) fun t _ y => ?_
  blk_simp
  rw [after0_10]
  obtain ⟨r, j, rfl⟩ : ∃ (r : Fin 256) (j : Fin 512), y = ix2 r j := ⟨y 0, y 1, funext fun a => by match a with | ⟨0, _⟩ => rfl | ⟨1, _⟩ => rfl⟩
  have ht : t.val < 66 := (idx t).2.2.2.2.2.2.2
  have hq : queryTile t.val < 66 := query_lt _ ht
  refine (out10_apply r j).trans ?_
  have hy : ((cfg0.win 10).blk t).view.emb (ix2 r j) = ix2 (⟨queryTile t.val * 256 + r.val, by omega⟩ : Fin 16896) j := by
    blk_ext [odx t]
  rw [hy]
  refine Eq.trans ?_ (v128_eq ⟨t.val / 33, batch_lt _ ht⟩ ⟨t.val % 33 * 256 + r.val, token_lt _ _ r.isLt⟩ j _ (row_query _ _ r.isLt)).symm
  exact congrArg (· * _) (turned_congr (funext fun j => prod_eq m c t r _ _ rfl _ _ rfl rfl) (funext fun l => blk4 m c t r l _ rfl)
    (funext fun l => blk5 m c t r l _ rfl) (funext fun l => blk6 m c t r l _ rfl) j)

/-- The second keys. -/
theorem final11 : (dats m 0 c).arrAt 11 (cfgs 0).N
    = Cert.Reference6Ideal.Read.val_main_v154 (F := Ideal) (X m c) (M m c) (G m c) (W m c) := by
  refine (dats m 0 c).arrAt_eq_of_covers 11 _ (by decide +kernel) fun t _ y => ?_
  blk_simp
  rw [after0_11]
  obtain ⟨r, j, rfl⟩ : ∃ (r : Fin 256) (j : Fin 512), y = ix2 r j := ⟨y 0, y 1, funext fun a => by match a with | ⟨0, _⟩ => rfl | ⟨1, _⟩ => rfl⟩
  have ht : t.val < 66 := (idx t).2.2.2.2.2.2.2
  have hq : t.val < 66 := ht
  refine (out11_apply r j).trans ?_
  have hy : ((cfg0.win 11).blk t).view.emb (ix2 r j) = ix2 (⟨t.val * 256 + r.val, by omega⟩ : Fin 16896) j := by
    blk_ext [odx t]
  rw [hy]
  refine Eq.trans ?_ (v154_eq ⟨t.val / 33, batch_lt _ ht⟩ ⟨t.val % 33 * 256 + r.val, token_lt _ _ r.isLt⟩ j _ (row_token _ _)).symm
  exact turned_congr (funext fun j => prod_eq m c t r _ _ rfl _ _ rfl rfl) (funext fun l => blk4 m c t r l _ rfl)
    (funext fun l => blk5 m c t r l _ rfl) (funext fun l => blk6 m c t r l _ rfl) j

/-- The second values. -/
theorem final12 : (dats m 0 c).arrAt 12 (cfgs 0).N
    = Cert.Reference6Ideal.Read.val_main_v83 (F := Ideal) (X m c) (M m c) (G m c) (W m c) := by
  refine (dats m 0 c).arrAt_eq_of_covers 12 _ (by decide +kernel) fun t _ y => ?_
  blk_simp
  rw [after0_12]
  obtain ⟨j, r, rfl⟩ : ∃ (j : Fin 512) (r : Fin 256), y = ix3 0 j r := ⟨y 1, y 2, funext fun a => by
    match a with | ⟨0, _⟩ => exact Fin.ext (Nat.lt_one_iff.mp (y 0).isLt) | ⟨1, _⟩ => rfl | ⟨2, _⟩ => rfl⟩
  have ht : t.val < 66 := (idx t).2.2.2.2.2.2.2
  refine (out12_apply r j).trans ?_
  have hy : ((cfg0.win 12).blk t).view.emb (ix3 0 j r) = ix3 (⟨t.val, ht⟩ : Fin 66) j r := by
    blk_ext [odx t]
  rw [hy]
  refine Eq.trans ?_ (v83_eq ⟨t.val / 33, batch_lt _ ht⟩ ⟨t.val % 33 * 256 + r.val, token_lt _ _ r.isLt⟩ j ⟨t.val, ht⟩ r (row_token _ _)).symm
  exact prod_eq m c t r _ _ rfl _ _ rfl rfl

end Cert.AttnIn

end
-- ==== Proof.ModVec.lean ====
module

public import proofs.«01_k».proof.Proof.Gen.Kernel7Ideal.Value
public import proofs.«01_k».proof.Proof.Gen.Reference7Ideal.Read
public import proofs.«01_k».proof.Proof.FfnPay
public import Idealize.ShloMosaic.Lib.StableHlo.ReadAt
public import Idealize.ShloMosaic.Lib.Pointwise
public import Idealize.ShloMosaic.Lib.Pipeline.ValueKit
public import Idealize.ShloMosaic.Lib.Claim

@[expose] public section

/-! The modulation vectors of both layers: their array is the reference's, on every input. -/

set_option maxRecDepth 16384

noncomputable section

namespace Cert.ModVec

open Idealize.ShloMosaic Cert.Kernel7Ideal Cert.Kernel7Ideal.Gen
open Idealize.ShloMosaic.TcCoe Idealize.SL.Sem
open Cert.Ffn (silu)

/-- One modulation coordinate: a conditioning row through the activation, projected, plus the bias. -/
def coord (x w : Fin 1024 → EReal) (b : EReal) : EReal := (∑ k, silu (x k) * w k) + b

/-- A coordinate depends on its parts alone. -/
theorem coord_congr {x x' w w' : Fin 1024 → EReal} {b b' : EReal} (hx : x = x') (hw : w = w') (hb : b = b') :
    coord x w b = coord x' w' b' := by subst hx hw hb; rfl

/-- A row of zeros projects to the bias. -/
theorem coord_zero (w : Fin 1024 → EReal) (b : EReal) : coord (fun _ => 0) w b = b := by
  simp only [coord, silu, zero_mul, Finset.sum_const_zero, zero_add]

/-- The body's payload at one element. -/
theorem pay1_apply (x : FVec Ideal S8x1024 .f32) (w : FVec Ideal S1x1024x1536 .f32) (b : FVec Ideal S1x1x1536 .f32) (r : Fin 8) (j : Fin 1536) :
    k0_pay1 (F := Ideal) x w b (ix3 0 r j) = coord (fun k => x (ix2 r k)) (fun k => w (ix3 0 k j)) (b (ix3 0 0 j)) := by
  unfold coord silu
  pointwise [k0_pay1]
  simp only [zero_sub]

/-- What the body leaves at one element, from its three blocks. -/
theorem out_apply (x : Vec Ideal S8x1024 .f32) (w : Vec Ideal S1x1024x1536 .f32) (b : Vec Ideal S1x1x1536 .f32) (r : Fin 8) (j : Fin 1536) :
    out0_3 (F := Ideal) x w b (ix3 0 r j) = coord (fun k => x (ix2 r k)) (fun k => w (ix3 0 k j)) (b (ix3 0 0 j)) := by
  frame_out
  exact pay1_apply _ _ _ r j

/-- Which blocks grid point `t` reads and writes: all conditioning rows, and columns `t % 6` of layer `t / 6`. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 12 :=
  (by decide +kernel : ∀ t : Fin grid0.N, _)

variable (m : (ℓ : Loc nD τ sig) → Buf (Elt Ideal) ℓ) (c : Dev nD) (t : Fin cfg0.N)

/-- The four arguments. -/
abbrev X : FVec Ideal S2x1024 .f32 := m ((c : Thread nD τ).loc main_arg0)
abbrev Z : FVec Ideal S1024 .f32 := m ((c : Thread nD τ).loc main_arg1)
abbrev W : FVec Ideal S2x1024x9216 .f32 := m ((c : Thread nD τ).loc main_arg2)
abbrev B : FVec Ideal S2x9216 .f32 := m ((c : Thread nD τ).loc main_arg3)

/-- Conditioning row `r`: the two batches', the context's, then zeros. -/
def row (x : FVec Ideal S2x1024 .f32) (z : FVec Ideal S1024 .f32) (r : Fin 8) (k : Fin 1024) : EReal :=
  if h : r.val < 2 then x (ix2 ⟨r.val, h⟩ k) else if r.val < 3 then z (ix1 k) else 0

/-- The conditioning rows. -/
theorem rows_eq (r : Fin 8) (k : Fin 1024) : V m c main_v2 (ix2 r k) = row (X m c) (Z m c) r k := by
  unfold V row
  after_reads_at
  by_cases h : r.val < 2
  · simp only [h, dite_true]
  · by_cases h' : r.val < 3
    · have e : r.val - 2 < 1 := by omega
      simp only [h, h', e, dite_true, dite_false, if_true]
      after_reads_at
    · have e : ¬ r.val - 2 < 1 := by omega
      simp only [h, h', e, dite_false, if_false]
      after_reads_at

/-- The biases, one row a layer. -/
theorem bias_eq (i : Fin 2) (n : Fin 9216) : V m c main_v3 (ix3 i 0 n) = B m c (ix2 i n) := by
  unfold V
  after_reads_at

/-- The conditioning rows' block. -/
theorem blk0 (r : Fin 8) (k : Fin 1024) : iblk m c 0 t (ix2 r k) = row (X m c) (Z m c) r k := by
  refine Eq.trans ?_ (rows_eq m c r k)
  blk_ext! [iblk, idx t]

/-- The block of columns of the projection. -/
theorem blk1 (k : Fin 1024) (j : Fin 1536) (i : Fin 2) (n : Fin 9216) (hi : i.val = t.val / 6) (hn : n.val = t.val % 6 * 1536 + j.val) :
    iblk m c 1 t (ix3 0 k j) = W m c (ix3 i k n) := by
  blk_ext [iblk, V, idx t]

/-- The block of columns of the bias. -/
theorem blk2 (j : Fin 1536) (i : Fin 2) (n : Fin 9216) (hi : i.val = t.val / 6) (hn : n.val = t.val % 6 * 1536 + j.val) :
    iblk m c 2 t (ix3 0 0 j) = B m c (ix2 i n) := by
  refine Eq.trans ?_ (bias_eq m c i n)
  blk_ext! [iblk, idx t]

section Reference

open Cert.Reference7Ideal.Read

variable (x : FVec Ideal S2x1024 .f32) (z : FVec Ideal S1024 .f32) (w : FVec Ideal S2x1024x9216 .f32) (b : FVec Ideal S2x9216 .f32)

/-- The first layer's vectors of a batch. -/
theorem v8_eq (r : Fin 2) (n : Fin 9216) : val_main_v8 (F := Ideal) x w b (ix2 r n)
    = coord (fun k => x (ix2 r k)) (fun k => w (ix3 0 k n)) (b (ix2 0 n)) := by
  unfold coord silu
  pointwise [val_main_v8, val_main_v7, val_main_v6, val_main_v5, val_main_v4, val_main_v3, val_main_v2, val_main_v1, val_main_v0, val_main_call0_v5,
    val_main_call0_v4, val_main_call0_v3, val_main_call0_v2, val_main_call0_v1, val_main_call0_v0, val_main_call0_cst, val_main_call0_cst_0]

/-- The first layer's vector of the context. -/
theorem v11_eq (n : Fin 9216) : val_main_v11 (F := Ideal) z w b (ix1 n) = coord (fun k => z (ix1 k)) (fun k => w (ix3 0 k n)) (b (ix2 0 n)) := by
  unfold coord silu
  pointwise [val_main_v11, val_main_v10, val_main_v9, val_main_v3, val_main_v2, val_main_v1, val_main_v0, val_main_call1_v5,
    val_main_call1_v4, val_main_call1_v3, val_main_call1_v2, val_main_call1_v1, val_main_call1_v0, val_main_call1_cst, val_main_call1_cst_0]

/-- The first layer's filling rows. -/
theorem v3_eq (n : Fin 9216) : val_main_v3 (F := Ideal) b (ix1 n) = b (ix2 0 n) := by
  pointwise [val_main_v3, val_main_v2]

/-- The second layer's vectors of a batch. -/
theorem v23_eq (r : Fin 2) (n : Fin 9216) : val_main_v23 (F := Ideal) x w b (ix2 r n)
    = coord (fun k => x (ix2 r k)) (fun k => w (ix3 1 k n)) (b (ix2 1 n)) := by
  unfold coord silu
  pointwise [val_main_v23, val_main_v22, val_main_v21, val_main_v20, val_main_v19, val_main_v18, val_main_v17, val_main_v16, val_main_v15, val_main_call2_v5,
    val_main_call2_v4, val_main_call2_v3, val_main_call2_v2, val_main_call2_v1, val_main_call2_v0, val_main_call2_cst, val_main_call2_cst_0]

/-- The second layer's vector of the context. -/
theorem v26_eq (n : Fin 9216) : val_main_v26 (F := Ideal) z w b (ix1 n) = coord (fun k => z (ix1 k)) (fun k => w (ix3 1 k n)) (b (ix2 1 n)) := by
  unfold coord silu
  pointwise [val_main_v26, val_main_v25, val_main_v24, val_main_v18, val_main_v17, val_main_v16, val_main_v15, val_main_call3_v5,
    val_main_call3_v4, val_main_call3_v3, val_main_call3_v2, val_main_call3_v1, val_main_call3_v0, val_main_call3_cst, val_main_call3_cst_0]

/-- The second layer's filling rows. -/
theorem v18_eq (n : Fin 9216) : val_main_v18 (F := Ideal) b (ix1 n) = b (ix2 1 n) := by
  pointwise [val_main_v18, val_main_v17]

/-- A coordinate of conditioning row `r`, by which row it is. -/
theorem coord_row (r : Fin 8) (u : Fin 1024 → EReal) (e : EReal) : coord (row x z r) u e
    = if h : r.val < 2 then coord (fun k => x (ix2 ⟨r.val, h⟩ k)) u e else if r.val < 3 then coord (fun k => z (ix1 k)) u e else e := by
  by_cases h : r.val < 2
  · rw [dif_pos h]
    exact coord_congr (funext fun k => dif_pos h) rfl rfl
  · rw [dif_neg h]
    by_cases h' : r.val < 3
    · rw [if_pos h']
      exact coord_congr (funext fun k => (dif_neg h).trans (if_pos h')) rfl rfl
    · rw [if_neg h']
      exact (coord_congr (funext fun k => (dif_neg h).trans (if_neg h')) rfl rfl).trans (coord_zero u e)

/-- The first layer's rows of the reference. -/
theorem v14_eq (r : Fin 8) (n : Fin 9216) : val_main_v14 (F := Ideal) x z w b (ix2 r n) = coord (row x z r) (fun k => w (ix3 0 k n)) (b (ix2 0 n)) := by
  rw [coord_row]
  simp only [← v8_eq, ← v11_eq]
  conv_rhs => rw [← v3_eq b n]
  unfold val_main_v14 val_main_v13 val_main_v12
  generalize val_main_v8 (F := Ideal) x w b = p
  generalize val_main_v11 (F := Ideal) z w b = q
  generalize val_main_v3 (F := Ideal) b = s
  pointwise []
  match r with
  | ⟨0, _⟩ | ⟨1, _⟩ | ⟨2, _⟩ | ⟨3, _⟩ | ⟨4, _⟩ | ⟨5, _⟩ | ⟨6, _⟩ | ⟨7, _⟩ => rfl

/-- The second layer's rows of the reference. -/
theorem v29_eq (r : Fin 8) (n : Fin 9216) : val_main_v29 (F := Ideal) x z w b (ix2 r n) = coord (row x z r) (fun k => w (ix3 1 k n)) (b (ix2 1 n)) := by
  rw [coord_row]
  simp only [← v23_eq, ← v26_eq]
  conv_rhs => rw [← v18_eq b n]
  unfold val_main_v29 val_main_v28 val_main_v27
  generalize val_main_v23 (F := Ideal) x w b = p
  generalize val_main_v26 (F := Ideal) z w b = q
  generalize val_main_v18 (F := Ideal) b = s
  pointwise []
  match r with
  | ⟨0, _⟩ | ⟨1, _⟩ | ⟨2, _⟩ | ⟨3, _⟩ | ⟨4, _⟩ | ⟨5, _⟩ | ⟨6, _⟩ | ⟨7, _⟩ => rfl

/-- The reference's result, by its layer. -/
theorem v32_layer (i : Fin 2) (r : Fin 8) (n : Fin 9216) : val_main_v32 (F := Ideal) x z w b (ix3 i r n)
    = if i.val < 1 then val_main_v14 (F := Ideal) x z w b (ix2 r n) else val_main_v29 (F := Ideal) x z w b (ix2 r n) := by
  unfold val_main_v32 val_main_v31 val_main_v30
  generalize val_main_v14 (F := Ideal) x z w b = p
  generalize val_main_v29 (F := Ideal) x z w b = q
  pointwise []
  rfl

/-- The reference's result at one element. -/
theorem v32_eq (i : Fin 2) (r : Fin 8) (n : Fin 9216) : val_main_v32 (F := Ideal) x z w b (ix3 i r n)
    = coord (row x z r) (fun k => w (ix3 i k n)) (b (ix2 i n)) := by
  rw [v32_layer, v14_eq, v29_eq]
  match i with
  | ⟨0, _⟩ => rfl
  | ⟨1, _⟩ => rfl

end Reference

/-- Column `j` of block `t` is in range. -/
theorem cols (t j : ℕ) (hj : j < 1536) : t % 6 * 1536 + j < 9216 := by omega

/-- The result array is the reference's. -/
theorem final : (dats m 0 c).arrAt 3 (cfgs 0).N = Cert.Reference7Ideal.Read.val_main_v32 (F := Ideal) (X m c) (Z m c) (W m c) (B m c) := by
  refine (dats m 0 c).arrAt_eq_of_covers 3 _ (by decide +kernel) fun t _ y => ?_
  blk_simp
  rw [after0_3]
  obtain ⟨r, j, rfl⟩ : ∃ (r : Fin 8) (j : Fin 1536), y = ix3 0 r j := ⟨y 1, y 2, funext fun a => by
    match a with | ⟨0, _⟩ => exact Subsingleton.elim (α := Fin 1) _ _ | ⟨1, _⟩ => rfl | ⟨2, _⟩ => rfl⟩
  have ht : t.val < 12 := (idx t).2.2.2.2
  have hn := cols t.val j.val j.isLt
  refine (out_apply _ _ _ r j).trans ?_
  have hy : ((cfg0.win 3).blk t).view.emb (ix3 0 r j) = ix3 (⟨t.val / 6, by omega⟩ : Fin 2) r (⟨t.val % 6 * 1536 + j.val, hn⟩ : Fin 9216) := by
    blk_ext [idx t]
  rw [hy, v32_eq]
  exact coord_congr (funext fun k => blk0 m c t r k) (funext fun k => blk1 m c t k j _ _ rfl rfl) (blk2 m c t j _ _ rfl rfl)

end Cert.ModVec

end
-- ==== Proof.Softmax.lean ====
module

public import Idealize.ShloMosaic.PureOps.Ideal.Laws

@[expose] public section

/-! Softmax over a row of 8448 scores taken 256 at a time, on the extended reals: the running maximum, the running
sum and the running weighted sum, rescaled tile by tile, are the maximum and the two sums over the scores seen. -/

noncomputable section

namespace Cert.Softmax

open Idealize.ShloMosaic

/-- The value is a real number. -/
def Real' (a : EReal) : Prop := ∃ r : ℝ, a = r

/-- A product of real numbers is real. -/
theorem real_mul {a b : EReal} (ha : Real' a) (hb : Real' b) : Real' (a * b) := by
  obtain ⟨r, rfl⟩ := ha; obtain ⟨s, rfl⟩ := hb; exact ⟨r * s, (EReal.coe_mul r s).symm⟩

/-- A sum of two real numbers is real. -/
theorem real_add {a b : EReal} (ha : Real' a) (hb : Real' b) : Real' (a + b) := by
  obtain ⟨r, rfl⟩ := ha; obtain ⟨s, rfl⟩ := hb; exact ⟨r + s, (EReal.coe_add r s).symm⟩

/-- A difference of real numbers is real. -/
theorem real_sub {a b : EReal} (ha : Real' a) (hb : Real' b) : Real' (a - b) := by
  obtain ⟨r, rfl⟩ := ha; obtain ⟨s, rfl⟩ := hb; exact ⟨r - s, (EReal.coe_sub r s).symm⟩

/-- The exponential of a real number is real. -/
theorem real_exp {a : EReal} (ha : Real' a) : Real' (Ideal.exp a) := by
  obtain ⟨r, rfl⟩ := ha; exact ⟨Real.exp r, rfl⟩

/-- A finite sum of coerced reals is the coerced sum. -/
theorem coe_sum {ι : Type} (S : Finset ι) (f : ι → ℝ) : (∑ x ∈ S, (f x : EReal)) = ((∑ x ∈ S, f x : ℝ) : EReal) := by
  classical
  induction S using Finset.induction_on with
  | empty => simp
  | insert a S ha ih => rw [Finset.sum_insert ha, Finset.sum_insert ha, ih, EReal.coe_add]

/-- A finite sum of real numbers is real. -/
theorem real_sum {ι : Type} (S : Finset ι) (f : ι → EReal) (h : ∀ x, Real' (f x)) : Real' (∑ x ∈ S, f x) := by
  choose g hg using h
  exact ⟨∑ x ∈ S, g x, by rw [← coe_sum]; exact Finset.sum_congr rfl fun x _ => hg x⟩

/-- The exponential of a difference of real numbers. -/
theorem exp_coe_sub (a b : ℝ) : Ideal.exp ((a : EReal) - (b : EReal)) = ((Real.exp (a - b) : ℝ) : EReal) := by
  rw [← EReal.coe_sub]; rfl

/-- The maximum of real scores over a nonempty set is real. -/
theorem real_sup {ι : Type} (S : Finset ι) (hS : S.Nonempty) (s : ι → EReal) (hs : ∀ x, Real' (s x)) : Real' (S.sup s) := by
  obtain ⟨x, _, hx⟩ := Finset.exists_mem_eq_sup S hS s
  rw [hx]; exact hs x

/-- The keys of the first `k` tiles. -/
def keys (k : ℕ) : Finset (Fin 8448) := Finset.univ.filter fun x => x.val < 256 * k

/-- Key `r` of tile `k`. -/
def key (k : Fin 33) (r : Fin 256) : Fin 8448 := ⟨256 * k.val + r.val, by omega⟩

/-- Tile `k`'s keys, as an embedding. -/
def keyEmb (k : Fin 33) : Fin 256 ↪ Fin 8448 := ⟨key k, fun r r' h => by
  have := congrArg Fin.val h
  simp only [key] at this
  exact Fin.ext (by omega)⟩

/-- Before the first tile no key is seen. -/
theorem keys_zero : keys 0 = ∅ := by simp [keys]

/-- After 33 tiles every key is seen. -/
theorem keys_all : keys 33 = Finset.univ := by
  ext x; simp only [keys, Finset.mem_filter, Finset.mem_univ, true_and, iff_true]; omega

/-- A tile adds its keys. -/
theorem keys_succ (k : Fin 33) : keys (k.val + 1) = keys k.val ∪ Finset.univ.map (keyEmb k) := by
  ext x
  simp only [keys, Finset.mem_filter, Finset.mem_univ, true_and, Finset.mem_union, Finset.mem_map, keyEmb,
    Function.Embedding.coeFn_mk, key]
  constructor
  · intro h
    by_cases hx : x.val < 256 * k.val
    · exact .inl hx
    · exact .inr ⟨⟨x.val - 256 * k.val, by omega⟩, Fin.ext (by show 256 * k.val + (x.val - 256 * k.val) = x.val; omega)⟩
  · rintro (h | ⟨r, rfl⟩)
    · omega
    · show 256 * k.val + r.val < _; omega

/-- The keys of a tile are new. -/
theorem keys_disjoint (k : Fin 33) : Disjoint (keys k.val) (Finset.univ.map (keyEmb k)) := by
  rw [Finset.disjoint_left]
  intro x hx hx'
  simp only [keys, Finset.mem_filter, Finset.mem_univ, true_and] at hx
  simp only [Finset.mem_map, Finset.mem_univ, true_and, keyEmb, Function.Embedding.coeFn_mk, key] at hx'
  obtain ⟨r, rfl⟩ := hx'
  change 256 * k.val + r.val < _ at hx
  omega

/-- The running maximum takes in a tile. -/
theorem sup_succ (s : Fin 8448 → EReal) (k : Fin 33) :
    (keys (k.val + 1)).sup s = max ((keys k.val).sup s) (Finset.univ.sup fun r => s (key k r)) := by
  rw [keys_succ, Finset.sup_union, Finset.sup_map]; rfl

/-- A sum over the keys seen takes in a tile. -/
theorem sum_succ (f : Fin 8448 → EReal) (k : Fin 33) :
    ∑ x ∈ keys (k.val + 1), f x = (∑ x ∈ keys k.val, f x) + ∑ r, f (key k r) := by
  rw [keys_succ, Finset.sum_union (keys_disjoint k), Finset.sum_map]; rfl

/-- Rescaling from one maximum to the next turns the weighted sum at the old maximum into the one at the new. -/
theorem rescale (s w : Fin 8448 → EReal) (hs : ∀ x, Real' (s x)) (hw : ∀ x, Real' (w x)) (S : Finset (Fin 8448)) (M' : EReal)
    (hM' : Real' M') :
    Ideal.exp (S.sup s - M') * ∑ x ∈ S, w x * Ideal.exp (s x - S.sup s) = ∑ x ∈ S, w x * Ideal.exp (s x - M') := by
  rcases S.eq_empty_or_nonempty with rfl | hS
  · simp
  obtain ⟨μ, hμ⟩ := real_sup S hS s hs
  obtain ⟨ν, rfl⟩ := hM'
  choose σ hσ using hs
  choose ω hω using hw
  simp only [hμ, hσ, hω, exp_coe_sub, ← EReal.coe_mul, coe_sum]
  rw [Finset.mul_sum]
  refine congrArg _ (Finset.sum_congr rfl fun x _ => ?_)
  rw [mul_left_comm, ← Real.exp_add]
  ring_nf

/-- The running weighted sum takes in a tile. -/
theorem wsum_succ (s w : Fin 8448 → EReal) (hs : ∀ x, Real' (s x)) (hw : ∀ x, Real' (w x)) (k : Fin 33) :
    Ideal.exp ((keys k.val).sup s - (keys (k.val + 1)).sup s) * (∑ x ∈ keys k.val, w x * Ideal.exp (s x - (keys k.val).sup s))
        + ∑ r, w (key k r) * Ideal.exp (s (key k r) - (keys (k.val + 1)).sup s)
      = ∑ x ∈ keys (k.val + 1), w x * Ideal.exp (s x - (keys (k.val + 1)).sup s) := by
  have hne : (keys (k.val + 1)).Nonempty := ⟨key k 0, by
    simp only [keys, key, Finset.mem_filter, Finset.mem_univ, true_and]; show 256 * k.val + 0 < _; omega⟩
  rw [rescale s w hs hw _ _ (real_sup _ hne s hs), sum_succ]

/-- The same for the unweighted sum. -/
theorem esum_succ (s : Fin 8448 → EReal) (hs : ∀ x, Real' (s x)) (k : Fin 33) :
    Ideal.exp ((keys k.val).sup s - (keys (k.val + 1)).sup s) * (∑ x ∈ keys k.val, Ideal.exp (s x - (keys k.val).sup s))
        + ∑ r, Ideal.exp (s (key k r) - (keys (k.val + 1)).sup s)
      = ∑ x ∈ keys (k.val + 1), Ideal.exp (s x - (keys (k.val + 1)).sup s) := by
  have h := wsum_succ s (fun _ => 1) hs (fun _ => ⟨1, rfl⟩) k
  simpa only [one_mul] using h

/-- The softmax weight of key `x` among all the keys. -/
def prob (s : Fin 8448 → EReal) (x : Fin 8448) : EReal :=
  Ideal.div (Ideal.exp (s x - Finset.univ.sup s)) (∑ y, Ideal.exp (s y - Finset.univ.sup s))

/-- The unnormalised weighted sums, normalised at the end and subtracted with the factor `c`, are the weighted sum by
the difference of the two softmax rows. -/
theorem diff_eq (s t w : Fin 8448 → EReal) (c : EReal) (hs : ∀ x, Real' (s x)) (ht : ∀ x, Real' (t x))
    (hw : ∀ x, Real' (w x)) (hc : Real' c) :
    (∑ x, w x * Ideal.exp (s x - Finset.univ.sup s)) * Ideal.div 1 (∑ x, Ideal.exp (s x - Finset.univ.sup s))
        - c * ((∑ x, w x * Ideal.exp (t x - Finset.univ.sup t)) * Ideal.div 1 (∑ x, Ideal.exp (t x - Finset.univ.sup t)))
      = ∑ x, w x * (prob s x - c * prob t x) := by
  have hne : (Finset.univ : Finset (Fin 8448)).Nonempty := ⟨0, Finset.mem_univ _⟩
  obtain ⟨μ, hμ⟩ := real_sup _ hne s hs
  obtain ⟨ν, hν⟩ := real_sup _ hne t ht
  obtain ⟨γ, rfl⟩ := hc
  choose σ hσ using hs
  choose τ hτ using ht
  choose ω hω using hw
  have pos : ∀ (f : Fin 8448 → ℝ) (m : ℝ), (∑ x, Real.exp (f x - m)) ≠ 0 := fun f m =>
    (Finset.sum_pos (fun x _ => Real.exp_pos _) hne).ne'
  unfold prob
  simp only [hμ, hν, hσ, hτ, hω, exp_coe_sub, ← EReal.coe_mul, coe_sum]
  rw [← EReal.coe_one]
  simp only [Ideal.div_coe (pos σ μ), Ideal.div_coe (pos τ ν), ← EReal.coe_mul, ← EReal.coe_sub, coe_sum]
  refine congrArg _ ?_
  rw [Finset.sum_mul, Finset.sum_mul, Finset.mul_sum, ← Finset.sum_sub_distrib]
  refine Finset.sum_congr rfl fun x _ => ?_
  ring

end Cert.Softmax

end
-- ==== Proof.AttnPay.lean ====
module

public import proofs.«01_k».proof.Proof.Gen.KernelIdeal.Skeleton
public import proofs.«01_k».proof.Proof.Softmax
public import Idealize.ShloMosaic.Lib.Pointwise

@[expose] public section

/-! What one tile of the differential attention stores, element by element: the scores of the two query halves, the
running maxima, sums and weighted values, and the normalised difference at the end. -/

set_option maxRecDepth 16384

noncomputable section

namespace Cert.Attn

open Idealize.ShloMosaic Cert.KernelIdeal Cert.KernelIdeal.Gen Cert.Softmax

/-- The score of query row `j` against key row `x` in half `e` of the head. -/
def score {n : ℕ} (e : Fin 2) (q : FVec Ideal S512x128 .bf16) (k : FVec Ideal ⟨2, ![n, 128]⟩ .bf16) (j : Fin 512) (x : Fin n) : EReal :=
  ∑ d : Fin 64, k (ix2 x ⟨e.val * 64 + d.val, by omega⟩) * q (ix2 j ⟨e.val * 64 + d.val, by omega⟩)

/-- A sum over 128 lanes is the sum over the low 64 and the sum over the high 64. -/
theorem sum_halves (f : Fin 128 → EReal) :
    ∑ x, f x = (∑ d : Fin 64, f ⟨d.val, by omega⟩) + ∑ d : Fin 64, f ⟨64 + d.val, by omega⟩ :=
  Fin.sum_univ_add (a := 64) (b := 64) f

/-- The low half's scores. -/
theorem pay3_apply (q : FVec Ideal S512x128 .bf16) (k : FVec Ideal S256x128 .bf16) (r : Fin 256) (j : Fin 512) :
    k0_pay3 (F := Ideal) (k0_pay21 q) k (ix2 r j) = score 0 q k j r := by
  have h : k0_pay3 (F := Ideal) (k0_pay21 q) k (ix2 r j)
      = ∑ x : Fin 128, Scalar.select (IntOp.cmpi CmpIPredicate.slt (BitVec.ofNat 32 x.val) 64#32) (k (ix2 r x) * q (ix2 j x)) 0 := by
    pointwise [k0_pay3, k0_pay21, k0_pay19, k0_pay20]
  rw [h, sum_halves]
  have lo : ∀ d : Fin 64, IntOp.cmpi CmpIPredicate.slt (BitVec.ofNat 32 d.val) 64#32 = 1#1 := by decide +kernel
  have hi : ∀ d : Fin 64, IntOp.cmpi CmpIPredicate.slt (BitVec.ofNat 32 (64 + d.val)) 64#32 = 0#1 := by decide +kernel
  simp only [lo, hi, Scalar.select, score]
  simp

/-- The high half's scores. -/
theorem pay12_apply (q : FVec Ideal S512x128 .bf16) (k : FVec Ideal S256x128 .bf16) (r : Fin 256) (j : Fin 512) :
    k0_pay12 (F := Ideal) (k0_pay22 q) k (ix2 r j) = score 1 q k j r := by
  have h : k0_pay12 (F := Ideal) (k0_pay22 q) k (ix2 r j)
      = ∑ x : Fin 128, Scalar.select (IntOp.cmpi CmpIPredicate.slt (BitVec.ofNat 32 x.val) 64#32) 0 (k (ix2 r x) * q (ix2 j x)) := by
    pointwise [k0_pay12, k0_pay22, k0_pay19, k0_pay20]
  rw [h, sum_halves]
  have lo : ∀ d : Fin 64, IntOp.cmpi CmpIPredicate.slt (BitVec.ofNat 32 d.val) 64#32 = 1#1 := by decide +kernel
  have hi : ∀ d : Fin 64, IntOp.cmpi CmpIPredicate.slt (BitVec.ofNat 32 (64 + d.val)) 64#32 = 0#1 := by decide +kernel
  simp only [lo, hi, Scalar.select, score]
  simp

/-- The word of minus infinity denotes it. -/
theorem ofBits_bot : Ideal.ofBits FTy.f32 4286578688#32 = ⊥ := by
  simp [Ideal.ofBits, Ideal.ieee]

/-- The new maximum of a tile: the old one against the tile's scores. -/
def newMax (m : EReal) (s : Fin 256 → EReal) : EReal := max m (Finset.univ.sup s)

/-- The new running maximum, as a supremum. -/
theorem newMax_eq (m : EReal) (s : Fin 256 → EReal) :
    max m (Finset.fold max (Ideal.ofBits FTy.f32 4286578688#32) s Finset.univ) = newMax m s := by
  rw [ofBits_bot]; rfl

variable (q : FVec Ideal S512x128 .bf16) (k : FVec Ideal S256x128 .bf16) (vt : FVec Ideal S1x128x256 .bf16)
  (m l : FVec Ideal S1x1x512 .f32) (a : FVec Ideal S1x128x512 .f32) (j : Fin 512) (d : Fin 128)

/-- The low half's new maximum. -/
theorem pay5_apply : k0_pay5 (F := Ideal) (k0_pay21 q) k m (ix2 0 j) = newMax (m (ix3 0 0 j)) (score 0 q k j) := by
  have h : k0_pay5 (F := Ideal) (k0_pay21 q) k m (ix2 0 j)
      = max (m (ix3 0 0 j)) (Finset.fold max (Ideal.ofBits FTy.f32 4286578688#32) (fun x => k0_pay3 (F := Ideal) (k0_pay21 q) k (ix2 x j)) Finset.univ) := by
    generalize k0_pay21 (F := Ideal) q = q'
    pointwise [k0_pay5, k0_pay4]
  rw [h, newMax_eq]; exact congrArg _ (funext fun r => pay3_apply q k r j)

/-- The high half's new maximum. -/
theorem pay14_apply : k0_pay14 (F := Ideal) (k0_pay22 q) k m (ix2 0 j) = newMax (m (ix3 0 0 j)) (score 1 q k j) := by
  have h : k0_pay14 (F := Ideal) (k0_pay22 q) k m (ix2 0 j)
      = max (m (ix3 0 0 j)) (Finset.fold max (Ideal.ofBits FTy.f32 4286578688#32) (fun x => k0_pay12 (F := Ideal) (k0_pay22 q) k (ix2 x j)) Finset.univ) := by
    generalize k0_pay22 (F := Ideal) q = q'
    pointwise [k0_pay14, k0_pay13]
  rw [h, newMax_eq]; exact congrArg _ (funext fun r => pay12_apply q k r j)

/-- A row stored as a plane. -/
theorem pay11_apply (v : FVec Ideal S1x512 .f32) : k0_pay11 (F := Ideal) v (ix3 0 0 j) = v (ix2 0 j) := by
  pointwise [k0_pay11]

/-- A row stored as the other plane. -/
theorem pay26_apply (v : FVec Ideal S1x512 .f32) : k0_pay26 (F := Ideal) v (ix3 0 0 j) = v (ix2 0 j) := by
  pointwise [k0_pay26]

/-- The new sum of a tile: the old one rescaled, and the tile's exponentials. -/
def newSum (m l : EReal) (s : Fin 256 → EReal) : EReal :=
  Ideal.exp (m - newMax m s) * l + ∑ x, Ideal.exp (s x - newMax m s)

/-- The new weighted sum of a tile. -/
def newAcc (m a : EReal) (s w : Fin 256 → EReal) : EReal :=
  Ideal.exp (m - newMax m s) * a + ∑ x, w x * Ideal.exp (s x - newMax m s)

/-- The new running sum depends on its parts alone. -/
theorem newSum_congr {m m' l l' : EReal} {s s' : Fin 256 → EReal} (hm : m = m') (hl : l = l') (hs : s = s') :
    newSum m l s = newSum m' l' s' := by subst hm hl hs; rfl

/-- The new running weighted sum depends on its parts alone. -/
theorem newAcc_congr {m m' a a' : EReal} {s s' w w' : Fin 256 → EReal} (hm : m = m') (ha : a = a') (hs : s = s') (hw : w = w') :
    newAcc m a s w = newAcc m' a' s' w' := by subst hm ha hs hw; rfl

/-- The low half's new sum. -/
theorem pay8_apply : k0_pay8 (F := Ideal) (k0_pay21 q) k m l (ix3 0 0 j) = newSum (m (ix3 0 0 j)) (l (ix3 0 0 j)) (score 0 q k j) := by
  have h : k0_pay8 (F := Ideal) (k0_pay21 q) k m l (ix3 0 0 j)
      = Ideal.exp (m (ix3 0 0 j) - k0_pay5 (F := Ideal) (k0_pay21 q) k m (ix2 0 j)) * l (ix3 0 0 j)
        + ∑ x : Fin 256, Ideal.exp (k0_pay3 (F := Ideal) (k0_pay21 q) k (ix2 x j) - k0_pay5 (F := Ideal) (k0_pay21 q) k m (ix2 0 j)) := by
    generalize k0_pay21 (F := Ideal) q = q'
    pointwise [k0_pay8, k0_pay7, k0_pay6, k0_pay4]
  rw [h, pay5_apply]; simp only [pay3_apply, newSum]

/-- The high half's new sum. -/
theorem pay17_apply : k0_pay17 (F := Ideal) (k0_pay22 q) k m l (ix3 0 0 j) = newSum (m (ix3 0 0 j)) (l (ix3 0 0 j)) (score 1 q k j) := by
  have h : k0_pay17 (F := Ideal) (k0_pay22 q) k m l (ix3 0 0 j)
      = Ideal.exp (m (ix3 0 0 j) - k0_pay14 (F := Ideal) (k0_pay22 q) k m (ix2 0 j)) * l (ix3 0 0 j)
        + ∑ x : Fin 256, Ideal.exp (k0_pay12 (F := Ideal) (k0_pay22 q) k (ix2 x j) - k0_pay14 (F := Ideal) (k0_pay22 q) k m (ix2 0 j)) := by
    generalize k0_pay22 (F := Ideal) q = q'
    pointwise [k0_pay17, k0_pay16, k0_pay15, k0_pay13]
  rw [h, pay14_apply]; simp only [pay12_apply, newSum]

/-- The low half's new weighted values. -/
theorem pay10_apply : k0_pay10 (F := Ideal) (k0_pay9 (k0_pay21 q) k vt m a) (ix3 0 d j)
    = newAcc (m (ix3 0 0 j)) (a (ix3 0 d j)) (score 0 q k j) (fun r => vt (ix3 0 d r)) := by
  have h : k0_pay10 (F := Ideal) (k0_pay9 (k0_pay21 q) k vt m a) (ix3 0 d j)
      = Ideal.exp (m (ix3 0 0 j) - k0_pay5 (F := Ideal) (k0_pay21 q) k m (ix2 0 j)) * a (ix3 0 d j)
        + ∑ x : Fin 256, vt (ix3 0 d x) * Ideal.exp (k0_pay3 (F := Ideal) (k0_pay21 q) k (ix2 x j) - k0_pay5 (F := Ideal) (k0_pay21 q) k m (ix2 0 j)) := by
    generalize k0_pay21 (F := Ideal) q = q'
    pointwise [k0_pay10, k0_pay9, k0_pay7, k0_pay6, k0_pay4, k0_pay2]
  rw [h, pay5_apply]; simp only [pay3_apply, newAcc]

/-- The high half's new weighted values. -/
theorem pay18_apply : k0_pay18 (F := Ideal) (k0_pay22 q) k (k0_pay2 vt) m a (ix3 0 d j)
    = newAcc (m (ix3 0 0 j)) (a (ix3 0 d j)) (score 1 q k j) (fun r => vt (ix3 0 d r)) := by
  have h : k0_pay18 (F := Ideal) (k0_pay22 q) k (k0_pay2 vt) m a (ix3 0 d j)
      = Ideal.exp (m (ix3 0 0 j) - k0_pay14 (F := Ideal) (k0_pay22 q) k m (ix2 0 j)) * a (ix3 0 d j)
        + ∑ x : Fin 256, vt (ix3 0 d x) * Ideal.exp (k0_pay12 (F := Ideal) (k0_pay22 q) k (ix2 x j) - k0_pay14 (F := Ideal) (k0_pay22 q) k m (ix2 0 j)) := by
    generalize k0_pay22 (F := Ideal) q = q'
    pointwise [k0_pay18, k0_pay16, k0_pay15, k0_pay13, k0_pay2]
  rw [h, pay14_apply]; simp only [pay12_apply, newAcc]

/-- What the scratches hold before the first tile. -/
theorem pay23_apply (i : S2x1x512.Idx) : k0_pay23 (F := Ideal) i = ⊥ := by
  rw [show k0_pay23 (F := Ideal) i = Ideal.ofBits FTy.f32 4286578688#32 from rfl, ofBits_bot]

/-- The running sums begin at zero. -/
theorem pay24_apply (i : S2x1x512.Idx) : k0_pay24 (F := Ideal) i = 0 := by
  rw [show k0_pay24 (F := Ideal) i = Ideal.ofBits FTy.f32 0#32 from rfl]; simp [Ideal.ofBits, Ideal.ieee]

/-- The running weighted sums begin at zero. -/
theorem pay25_apply (i : S2x128x512.Idx) : k0_pay25 (F := Ideal) i = 0 := by
  rw [show k0_pay25 (F := Ideal) i = Ideal.ofBits FTy.f32 0#32 from rfl]; simp [Ideal.ofBits, Ideal.ieee]

/-- The factor of the second softmax, from the four vectors. -/
def lam (v : FVec Ideal S4x64 .f32) : EReal :=
  Ideal.exp (∑ x : Fin 64, v (ix2 0 x) * v (ix2 1 x)) - Ideal.exp (∑ x : Fin 64, v (ix2 2 x) * v (ix2 3 x)) + Ideal.ofBits FTy.f32 1045220557#32

/-- The row normalised by its root mean square, times the gain and the constant. -/
def norm (D : Fin 128 → EReal) (g : EReal) (d : Fin 128) : EReal :=
  D d * Ideal.rsqrt (Ideal.div (∑ x, D x * D x) (Ideal.ofBits FTy.f32 1124073472#32) + Ideal.ofBits FTy.f32 897988541#32) * g
    * Ideal.ofBits FTy.f32 1061997773#32

/-- What a grid point stores, from the two halves' sums and weighted values. -/
theorem pay1_apply (v : FVec Ideal S4x64 .f32) (a0 a1 : FVec Ideal S1x128x512 .f32) (l0 l1 : FVec Ideal S1x1x512 .f32)
    (g : FVec Ideal S128x1 .f32) : k0_pay1 (F := Ideal) (k0_pay29 (k0_pay27 v) (k0_pay28 v) a0 l0 a1 l1 g) (ix2 j d)
      = norm (fun d => a0 (ix3 0 d j) * Ideal.div 1 (l0 (ix3 0 0 j)) - lam v * (a1 (ix3 0 d j) * Ideal.div 1 (l1 (ix3 0 0 j))))
          (g (ix2 d 0)) d := by
  unfold norm lam
  pointwise [k0_pay1, k0_pay29, k0_pay27, k0_pay28]

end Cert.Attn

end
-- ==== Proof.AttnLoop.lean ====
module

public import proofs.«01_k».proof.Proof.Gen.KernelIdeal.Value
public import proofs.«01_k».proof.Proof.AttnPay
public import Idealize.ShloMosaic.Lib.WritesUnit

@[expose] public section

/-! The loop over the 33 key tiles: after the trips before `n` the three scratches hold, per half and query row, the
maximum, the sum and the weighted sums over the keys of the first `n` tiles. -/

set_option maxRecDepth 16384

noncomputable section

namespace Cert.Attn

open Idealize.ShloMosaic Cert.KernelIdeal Cert.KernelIdeal.Gen Cert.Softmax
open Idealize.ShloMosaic.TcCoe Idealize.SL.Sem

/-- A load of one plane of a `2×n×512` scratch reads that plane. -/
theorem readAt_plane {n : ℕ} {κ : Kind} {sp : Space} (v : View sig κ sp ⟨3, ![2, n, 512]⟩ .f32) (e : Fin 2) (off : Fin 3 → ℕ)
    (h : off = ![e.val, 0, 0]) (inb) (f : v.ty.Contents (Elt Ideal)) (d : Fin n) (j : Fin 512) :
    v.readAt (Elt Ideal) (Rect.unit (s := ⟨3, ![2, n, 512]⟩) off ![1, n, 512] inb).toLoadRect f (ix3 0 d j)
      = v.read (Elt Ideal) f (ix3 e d j) := by
  subst h
  rw [View.readAt_apply]
  refine congrArg _ (funext fun a => Fin.ext ?_)
  match a with
  | ⟨0, _⟩ => show e.val + 1 * 0 = e.val; omega
  | ⟨1, _⟩ => show 0 + 1 * d.val = d.val; omega
  | ⟨2, _⟩ => show 0 + 1 * j.val = j.val; omega

/-- After the two planes are written, each plane reads what was written to it. -/
theorem read_planes {n : ℕ} {κ : Kind} {sp : Space} (v : View sig κ sp ⟨3, ![2, n, 512]⟩ .f32) (f : v.ty.Contents (Elt Ideal))
    (inb1 inb0) (w1 w0 : Vec Ideal ⟨3, ![1, n, 512]⟩ .f32) (L : List (View.Piece (Elt Ideal) ⟨3, ![2, n, 512]⟩ .f32))
    (e : Fin 2) (d : Fin n) (j : Fin 512) :
    v.read (Elt Ideal) (v.writes (Elt Ideal) f ((⟨Rect.unit (s := ⟨3, ![2, n, 512]⟩) ![1, 0, 0] ![1, n, 512] inb1, w1⟩ : View.Piece (Elt Ideal) ⟨3, ![2, n, 512]⟩ .f32)
        :: (⟨Rect.unit (s := ⟨3, ![2, n, 512]⟩) ![0, 0, 0] ![1, n, 512] inb0, w0⟩ : View.Piece (Elt Ideal) ⟨3, ![2, n, 512]⟩ .f32) :: L)) (ix3 e d j)
      = if e = 1 then w1 (ix3 0 d j) else w0 (ix3 0 d j) := by
  match e with
  | 1 =>
    rw [if_pos rfl]
    refine View.read_writes_cons_unit_of_mem v f inb1 w1 _ _ (ix3 0 d j) rfl fun a => ?_
    match a with
    | ⟨0, _⟩ => rfl
    | ⟨1, _⟩ => exact (Nat.zero_add _).symm
    | ⟨2, _⟩ => exact (Nat.zero_add _).symm
  | 0 =>
    rw [if_neg (by decide)]
    refine (View.read_writes_cons_unit_of_not_mem v f inb1 w1 _ _ rfl 0 (.inl Nat.zero_lt_one)).trans ?_
    refine View.read_writes_cons_unit_of_mem v f inb0 w0 _ _ (ix3 0 d j) rfl fun a => ?_
    match a with
    | ⟨0, _⟩ => rfl
    | ⟨1, _⟩ => exact (Nat.zero_add _).symm
    | ⟨2, _⟩ => exact (Nat.zero_add _).symm

/-- A load of tile `k` of the keys reads its rows. -/
theorem readAt_keys {κ : Kind} {sp : Space} (v : View sig κ sp S8448x128 .bf16) (k : Fin 33) (off : Fin 2 → ℕ)
    (h : off = ![256 * k.val, 0]) (inb) (f : v.ty.Contents (Elt Ideal)) (r : Fin 256) (d : Fin 128) :
    v.readAt (Elt Ideal) (Rect.unit (s := S8448x128) off ![256, 128] inb).toLoadRect f (ix2 r d)
      = v.read (Elt Ideal) f (ix2 (key k r) d) := by
  subst h
  rw [View.readAt_apply]
  refine congrArg _ (funext fun a => Fin.ext ?_)
  match a with
  | ⟨0, _⟩ => show 256 * k.val + 1 * r.val = 256 * k.val + r.val; omega
  | ⟨1, _⟩ => show 0 + 1 * d.val = d.val; omega

/-- A load of tile `k` of the values reads its plane. -/
theorem readAt_values {κ : Kind} {sp : Space} (v : View sig κ sp S33x128x256 .bf16) (k : Fin 33) (off : Fin 3 → ℕ)
    (h : off = ![k.val, 0, 0]) (inb) (f : v.ty.Contents (Elt Ideal)) (d : Fin 128) (r : Fin 256) :
    v.readAt (Elt Ideal) (Rect.unit (s := S33x128x256) off ![1, 128, 256] inb).toLoadRect f (ix3 0 d r)
      = v.read (Elt Ideal) f (ix3 k d r) := by
  subst h
  rw [View.readAt_apply]
  refine congrArg _ (funext fun a => Fin.ext ?_)
  match a with
  | ⟨0, _⟩ => show k.val + 1 * 0 = k.val; omega
  | ⟨1, _⟩ => show 0 + 1 * d.val = d.val; omega
  | ⟨2, _⟩ => show 0 + 1 * r.val = r.val; omega

/-- The value of key `x` in column `d`, from the tiled values. -/
def value (vv : FVec Ideal S33x128x256 .bf16) (d : Fin 128) (x : Fin 8448) : EReal :=
  vv (ix3 ⟨x.val / 256, by omega⟩ d ⟨x.val % 256, by omega⟩)

/-- The value of key `r` of tile `k`. -/
theorem value_key (vv : FVec Ideal S33x128x256 .bf16) (d : Fin 128) (k : Fin 33) (r : Fin 256) : value vv d (key k r) = vv (ix3 k d r) := by
  unfold value
  refine congrArg vv (funext fun a => Fin.ext ?_)
  match a with
  | ⟨0, _⟩ => show (256 * k.val + r.val) / 256 = k.val; omega
  | ⟨1, _⟩ => rfl
  | ⟨2, _⟩ => show (256 * k.val + r.val) % 256 = r.val; omega

/-- The loop runs 33 trips. -/
theorem trips_eq : k0_t1_loop.trips = 33 := by decide +kernel

section Loop

variable (𝒱 : Variants) (c : Dev nD) (bd : Option 𝒱.V) (i : grid0.Coords)
  (arg3 : Memref sig .tc .vmem S512x128 .bf16) (harg3 : arg3.IsWhole) (arg4 : Memref sig .tc .vmem S8448x128 .bf16) (harg4 : arg4.IsWhole)
  (arg5 : Memref sig .tc .vmem S33x128x256 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x128 .bf16) (harg8 : arg8.IsWhole)
  (arg9 : Memref sig .tc .vmem S2x1x512 .f32) (harg9 : arg9.IsWhole) (arg10 : Memref sig .tc .vmem S2x1x512 .f32) (harg10 : arg10.IsWhole)
  (arg11 : Memref sig .tc .vmem S2x128x512 .f32) (harg11 : arg11.IsWhole)
  (q : Vec Ideal S512x128 .bf16) (X4 : BufTy.Contents (Elt Ideal) arg4.view.ty) (X5 : BufTy.Contents (Elt Ideal) arg5.view.ty)

/-- The score of query row `j` against every key. -/
abbrev sc (e : Fin 2) (j : Fin 512) : Fin 8448 → EReal := score e q (arg4.view.read (Elt Ideal) X4) j

/-- The scratches hold the maxima, sums and weighted sums over the keys of the first `n` tiles. -/
structure Holds (n : ℕ) (f9 : BufTy.Contents (Elt Ideal) arg9.view.ty) (f10 : BufTy.Contents (Elt Ideal) arg10.view.ty)
    (f11 : BufTy.Contents (Elt Ideal) arg11.view.ty) : Prop where
  max : ∀ (e : Fin 2) (j : Fin 512), arg9.view.read (Elt Ideal) f9 (ix3 e 0 j) = (keys n).sup (sc arg4 q X4 e j)
  sum : ∀ (e : Fin 2) (j : Fin 512), arg10.view.read (Elt Ideal) f10 (ix3 e 0 j)
    = ∑ x ∈ keys n, Ideal.exp (sc arg4 q X4 e j x - (keys n).sup (sc arg4 q X4 e j))
  acc : ∀ (e : Fin 2) (d : Fin 128) (j : Fin 512), arg11.view.read (Elt Ideal) f11 (ix3 e d j)
    = ∑ x ∈ keys n, value (arg5.view.read (Elt Ideal) X5) d x * Ideal.exp (sc arg4 q X4 e j x - (keys n).sup (sc arg4 q X4 e j))

/-- One trip takes in one tile, at each half and row. -/
theorem trip_step (k : Fin k0_t1_loop.trips) (k' : Fin 33) (hk : k'.val = k.val)
    (f9 : BufTy.Contents (Elt Ideal) arg9.view.ty) (f10 : BufTy.Contents (Elt Ideal) arg10.view.ty)
    (f11 : BufTy.Contents (Elt Ideal) arg11.view.ty) (e : Fin 2) (j : Fin 512) :
    arg9.view.read (Elt Ideal) (arg9.view.writes (Elt Ideal) f9 (tripL_k0_t1 𝒱 c bd i arg3 harg3 arg4 harg4 arg5 harg5 arg6 harg6 arg7 harg7 arg8 harg8 arg9 harg9 arg10 harg10 arg11 harg11 q X4 X5 k f9 f10 f11).1) (ix3 e 0 j)
        = newMax (arg9.view.read (Elt Ideal) f9 (ix3 e 0 j)) (fun r => sc arg4 q X4 e j (key k' r))
    ∧ arg10.view.read (Elt Ideal) (arg10.view.writes (Elt Ideal) f10 (tripL_k0_t1 𝒱 c bd i arg3 harg3 arg4 harg4 arg5 harg5 arg6 harg6 arg7 harg7 arg8 harg8 arg9 harg9 arg10 harg10 arg11 harg11 q X4 X5 k f9 f10 f11).2.1) (ix3 e 0 j)
        = newSum (arg9.view.read (Elt Ideal) f9 (ix3 e 0 j)) (arg10.view.read (Elt Ideal) f10 (ix3 e 0 j)) (fun r => sc arg4 q X4 e j (key k' r))
    ∧ ∀ d : Fin 128, arg11.view.read (Elt Ideal) (arg11.view.writes (Elt Ideal) f11 (tripL_k0_t1 𝒱 c bd i arg3 harg3 arg4 harg4 arg5 harg5 arg6 harg6 arg7 harg7 arg8 harg8 arg9 harg9 arg10 harg10 arg11 harg11 q X4 X5 k f9 f10 f11).2.2) (ix3 e d j)
        = newAcc (arg9.view.read (Elt Ideal) f9 (ix3 e 0 j)) (arg11.view.read (Elt Ideal) f11 (ix3 e d j)) (fun r => sc arg4 q X4 e j (key k' r))
            (fun r => value (arg5.view.read (Elt Ideal) X5) d (key k' r)) := by
  have o1 : k0_off1 k = ![256 * k'.val, 0] := by rw [hk]; exact k0_off1_eq k
  have o2 : k0_off2 k = ![k'.val, 0, 0] := by rw [hk]; exact k0_off2_eq k
  have hs : ∀ (e : Fin 2) (inb), score e q (arg4.view.readAt (Elt Ideal) (Rect.unit (s := S8448x128) (k0_off1 k) ![256, 128] inb).toLoadRect X4) j
      = fun r => sc arg4 q X4 e j (key k' r) := fun e inb => funext fun r => by
    unfold sc score
    exact Finset.sum_congr rfl fun d _ => congrArg (· * _) (readAt_keys arg4.view k' _ o1 inb X4 r _)
  have hv : ∀ (d : Fin 128) (inb), (fun r => arg5.view.readAt (Elt Ideal) (Rect.unit (s := S33x128x256) (k0_off2 k) ![1, 128, 256] inb).toLoadRect X5 (ix3 0 d r))
      = fun r => value (arg5.view.read (Elt Ideal) X5) d (key k' r) := fun d inb => funext fun r => by
    rw [value_key]; exact readAt_values arg5.view k' _ o2 inb X5 d r
  unfold tripL_k0_t1 trip_k0_t1
  dsimp only
  refine ⟨?_, ?_, fun d => ?_⟩
  · refine (read_planes arg9.view f9 _ _ _ _ [] e 0 j).trans ?_
    match e with
    | 0 =>
      unfold trip_k0_t1.sl.r_2
      rw [if_neg (by decide), pay11_apply]
      exact (pay5_apply _ _ _ _).trans (congrArg₂ newMax (readAt_plane arg9.view 0 _ rfl _ _ 0 j) (hs 0 _))
    | 1 =>
      unfold trip_k0_t1.sl.r_5 trip_k0_t1.sl.r trip_k0_t1.sl.v115
      rw [if_pos rfl, pay26_apply]
      exact (pay14_apply _ _ _ _).trans (congrArg₂ newMax (readAt_plane arg9.view 1 _ rfl _ _ 0 j) (hs 1 _))
  · refine (read_planes arg10.view f10 _ _ _ _ [] e 0 j).trans ?_
    match e with
    | 0 =>
      rw [if_neg (by decide)]
      exact (pay8_apply _ _ _ _ _).trans (newSum_congr (readAt_plane arg9.view 0 _ rfl _ _ 0 j)
        (readAt_plane arg10.view 0 _ rfl _ _ 0 j) (hs 0 _))
    | 1 =>
      unfold trip_k0_t1.sl.r trip_k0_t1.sl.v115 trip_k0_t1.sl.v125
      rw [if_pos rfl]
      exact (pay17_apply _ _ _ _ _).trans (newSum_congr (readAt_plane arg9.view 1 _ rfl _ _ 0 j)
        (readAt_plane arg10.view 1 _ rfl _ _ 0 j) (hs 1 _))
  · refine (read_planes arg11.view f11 _ _ _ _ [] e d j).trans ?_
    match e with
    | 0 =>
      unfold trip_k0_t1.sl.r_3
      rw [if_neg (by decide)]
      exact (pay10_apply _ _ _ _ _ _ _).trans (newAcc_congr (readAt_plane arg9.view 0 _ rfl _ _ 0 j)
        (readAt_plane arg11.view 0 _ rfl _ _ d j) (hs 0 _) (hv d _))
    | 1 =>
      unfold trip_k0_t1.sl.r_6
      rw [if_pos rfl]
      exact (pay18_apply _ _ _ _ _ _ _).trans (newAcc_congr (readAt_plane arg9.view 1 _ rfl _ _ 0 j)
        (readAt_plane arg11.view 1 _ rfl _ _ d j) (hs 1 _) (hv d _))

/-- One trip carries the state over one tile. -/
theorem Holds.step (hs : ∀ e j x, Real' (sc arg4 q X4 e j x)) (hv : ∀ d x, Real' (value (arg5.view.read (Elt Ideal) X5) d x))
    (k : Fin k0_t1_loop.trips) (f9 : BufTy.Contents (Elt Ideal) arg9.view.ty) (f10 : BufTy.Contents (Elt Ideal) arg10.view.ty)
    (f11 : BufTy.Contents (Elt Ideal) arg11.view.ty) (h : Holds arg4 arg5 arg9 arg10 arg11 q X4 X5 k.val f9 f10 f11) :
    Holds arg4 arg5 arg9 arg10 arg11 q X4 X5 (k.val + 1)
      (arg9.view.writes (Elt Ideal) f9 (tripL_k0_t1 𝒱 c bd i arg3 harg3 arg4 harg4 arg5 harg5 arg6 harg6 arg7 harg7 arg8 harg8 arg9 harg9 arg10 harg10 arg11 harg11 q X4 X5 k f9 f10 f11).1)
      (arg10.view.writes (Elt Ideal) f10 (tripL_k0_t1 𝒱 c bd i arg3 harg3 arg4 harg4 arg5 harg5 arg6 harg6 arg7 harg7 arg8 harg8 arg9 harg9 arg10 harg10 arg11 harg11 q X4 X5 k f9 f10 f11).2.1)
      (arg11.view.writes (Elt Ideal) f11 (tripL_k0_t1 𝒱 c bd i arg3 harg3 arg4 harg4 arg5 harg5 arg6 harg6 arg7 harg7 arg8 harg8 arg9 harg9 arg10 harg10 arg11 harg11 q X4 X5 k f9 f10 f11).2.2) := by
  have hk : k.val < 33 := trips_eq ▸ k.isLt
  have t := trip_step 𝒱 c bd i arg3 harg3 arg4 harg4 arg5 harg5 arg6 harg6 arg7 harg7 arg8 harg8 arg9 harg9 arg10 harg10 arg11 harg11 q X4 X5
    k ⟨k.val, hk⟩ rfl f9 f10 f11
  have hm : ∀ (e : Fin 2) (j : Fin 512), newMax (arg9.view.read (Elt Ideal) f9 (ix3 e 0 j)) (fun r => sc arg4 q X4 e j (key ⟨k.val, hk⟩ r))
      = (keys (k.val + 1)).sup (sc arg4 q X4 e j) := fun e j => by
    rw [h.max e j]; exact (sup_succ _ ⟨k.val, hk⟩).symm
  refine ⟨fun e j => (t e j).1.trans (hm e j), fun e j => (t e j).2.1.trans ?_, fun e d j => ((t e j).2.2 d).trans ?_⟩
  · unfold newSum
    rw [hm e j, h.max e j, h.sum e j]
    exact esum_succ _ (hs e j) ⟨k.val, hk⟩
  · unfold newAcc
    rw [hm e j, h.max e j, h.acc e d j]
    exact wsum_succ _ _ (hs e j) (hv d) ⟨k.val, hk⟩

/-- The state after the trips before `n`, from scratches holding minus infinity and zeros. -/
theorem Holds.loop (hs : ∀ e j x, Real' (sc arg4 q X4 e j x)) (hv : ∀ d x, Real' (value (arg5.view.read (Elt Ideal) X5) d x))
    (G9 : BufTy.Contents (Elt Ideal) arg9.view.ty) (G10 : BufTy.Contents (Elt Ideal) arg10.view.ty)
    (G11 : BufTy.Contents (Elt Ideal) arg11.view.ty) (h : Holds arg4 arg5 arg9 arg10 arg11 q X4 X5 0 G9 G10 G11) (n : ℕ) (hn : n ≤ 33) :
    Holds arg4 arg5 arg9 arg10 arg11 q X4 X5 n
      (arg9.view.writes (Elt Ideal) G9 (pb_k0_t1 𝒱 c bd i arg3 harg3 arg4 harg4 arg5 harg5 arg6 harg6 arg7 harg7 arg8 harg8 arg9 harg9 arg10 harg10 arg11 harg11 q X4 X5 G9 G10 G11 n).1)
      (arg10.view.writes (Elt Ideal) G10 (pb_k0_t1 𝒱 c bd i arg3 harg3 arg4 harg4 arg5 harg5 arg6 harg6 arg7 harg7 arg8 harg8 arg9 harg9 arg10 harg10 arg11 harg11 q X4 X5 G9 G10 G11 n).2.1)
      (arg11.view.writes (Elt Ideal) G11 (pb_k0_t1 𝒱 c bd i arg3 harg3 arg4 harg4 arg5 harg5 arg6 harg6 arg7 harg7 arg8 harg8 arg9 harg9 arg10 harg10 arg11 harg11 q X4 X5 G9 G10 G11 n).2.2) := by
  induction n with
  | zero => exact h
  | succ n ih =>
    have e := pb_k0_t1_succ 𝒱 c bd i arg3 harg3 arg4 harg4 arg5 harg5 arg6 harg6 arg7 harg7 arg8 harg8 arg9 harg9 arg10 harg10 arg11 harg11 q X4 X5 G9 G10 G11
      ⟨n, by rw [trips_eq]; omega⟩
    dsimp only at e
    rw [e]
    simp only [View.writes_append]
    exact Holds.step 𝒱 c bd i arg3 harg3 arg4 harg4 arg5 harg5 arg6 harg6 arg7 harg7 arg8 harg8 arg9 harg9 arg10 harg10 arg11 harg11 q X4 X5 hs hv
      ⟨n, by rw [trips_eq]; omega⟩ _ _ _ (ih (by omega))

end Loop

end Cert.Attn

end
-- ==== Proof.AttnBody.lean ====
module

public import proofs.«01_k».proof.Proof.AttnLoop
public import Idealize.ShloMosaic.Lib.WholeRead
public import Idealize.ShloMosaic.Lib.VecWindow

@[expose] public section

/-! What one grid point of the differential attention stores: each query row's two softmax rows over all the keys,
their difference times the values, normalised. -/

set_option maxRecDepth 16384

noncomputable section

namespace Cert.Attn

open Idealize.ShloMosaic Cert.KernelIdeal Cert.KernelIdeal.Gen Cert.Softmax
open Idealize.ShloMosaic.TcCoe Idealize.SL.Sem

/-- A buffer stored whole reads what was stored. -/
theorem read_stored {n : ℕ} {κ : Kind} {sp : Space} (v : View sig κ sp ⟨3, ![2, n, 512]⟩ .f32) (f : v.ty.Contents (Elt Ideal))
    (inb) (w : Vec Ideal ⟨3, ![2, n, 512]⟩ .f32) (y : Shape.Idx ⟨3, ![2, n, 512]⟩) :
    v.read (Elt Ideal) (v.writes (Elt Ideal) f [(⟨Rect.unit (s := ⟨3, ![2, n, 512]⟩) ![0, 0, 0] ![2, n, 512] inb, w⟩ : View.Piece (Elt Ideal) ⟨3, ![2, n, 512]⟩ .f32)]) y
      = w y := by
  refine View.read_writes_cons_unit_of_mem v f inb w [] _ y rfl fun a => ?_
  match a with
  | ⟨0, _⟩ => exact (Nat.zero_add _).symm
  | ⟨1, _⟩ => exact (Nat.zero_add _).symm
  | ⟨2, _⟩ => exact (Nat.zero_add _).symm

/-- The normalised difference of the two halves' attention at query row `j`, from the blocks. -/
def attnBlk (x0 : FVec Ideal S512x128 .bf16) (x1 : FVec Ideal S8448x128 .bf16) (x2 : FVec Ideal S33x128x256 .bf16) (x3 : FVec Ideal S4x64 .f32)
    (j : Fin 512) (d : Fin 128) : EReal :=
  ∑ x, value x2 d x * (prob (score 0 x0 x1 j) x - lam x3 * prob (score 1 x0 x1 j) x)

/-- The element of the block a grid point stores. -/
theorem out_apply (c : Dev nD) (i : grid0.Coords)
    (arg3 : Memref sig .tc .vmem S512x128 .bf16) (harg3 : arg3.IsWhole) (arg4 : Memref sig .tc .vmem S8448x128 .bf16) (harg4 : arg4.IsWhole)
    (arg5 : Memref sig .tc .vmem S33x128x256 .bf16) (harg5 : arg5.IsWhole) (arg6 : Memref sig .tc .vmem S4x64 .f32) (harg6 : arg6.IsWhole)
    (arg7 : Memref sig .tc .vmem S128x1 .f32) (harg7 : arg7.IsWhole) (arg8 : Memref sig .tc .vmem S512x128 .bf16) (harg8 : arg8.IsWhole)
    (arg9 : Memref sig .tc .vmem S2x1x512 .f32) (harg9 : arg9.IsWhole) (arg10 : Memref sig .tc .vmem S2x1x512 .f32) (harg10 : arg10.IsWhole)
    (arg11 : Memref sig .tc .vmem S2x128x512 .f32) (harg11 : arg11.IsWhole)
    (x0 : FVec Ideal S512x128 .bf16) (x1 : FVec Ideal S8448x128 .bf16) (x2 : FVec Ideal S33x128x256 .bf16) (x3 : FVec Ideal S4x64 .f32) (x4 : FVec Ideal S128x1 .f32)
    (hs : ∀ e j x, Real' (score e x0 x1 j x)) (hv : ∀ d x, Real' (value x2 d x)) (hl : Real' (lam x3)) (j : Fin 512) (d : Fin 128) :
    out0_A_5 (F := Ideal) c i arg3 harg3 arg4 harg4 arg5 harg5 arg6 harg6 arg7 harg7 arg8 harg8 arg9 harg9 arg10 harg10 arg11 harg11 x0 x1 x2 x3 x4 (ix2 j d)
      = norm (attnBlk x0 x1 x2 x3 j) (x4 (ix2 d 0)) d := by
  unfold out0_A_5 kernelRun0_A
  dsimp only
  refine (View.read_writes_cons_unit_of_mem _ _ _ _ _ _ (ix2 j d) rfl fun a => ?_).trans ?_
  · match a with
    | ⟨0, _⟩ => exact (Nat.zero_add _).symm
    | ⟨1, _⟩ => exact (Nat.zero_add _).symm
  unfold kernelRun0_A.sl.r_2 kernelRun0_A.sl.r kernelRun0_A.sl.r_1
  refine (pay1_apply _ _ _ _ _ _ _ _).trans ?_
  have hq : View.readAt (Elt Ideal) arg3.view (Rect.unit ![0, 0] S512x128.size inb_S512x128_S512x128_0_0).toLoadRect (harg3.unread x0) = x0 :=
    (View.readAt_full ..).trans (harg3.read_unread _)
  have h6 : View.readAt (Elt Ideal) arg6.view (Rect.unit ![0, 0] S4x64.size inb_S4x64_S4x64_0_0).toLoadRect (harg6.unread x3) = x3 :=
    (View.readAt_full ..).trans (harg6.read_unread _)
  have h7 : View.readAt (Elt Ideal) arg7.view (Rect.unit ![0, 0] S128x1.size inb_S128x1_S128x1_0_0).toLoadRect (harg7.unread x4) = x4 :=
    (View.readAt_full ..).trans (harg7.read_unread _)
  have h4 : arg4.view.read (Elt Ideal) (harg4.unread x1) = x1 := harg4.read_unread _
  have h5 : arg5.view.read (Elt Ideal) (harg5.unread x2) = x2 := harg5.read_unread _
  have H := Holds.loop Variants.none c none i arg3 harg3 arg4 harg4 arg5 harg5 arg6 harg6 arg7 harg7 arg8 harg8 arg9 harg9 arg10 harg10 arg11 harg11
    x0 (harg4.unread x1) (harg5.unread x2) (fun e j x => by rw [sc, h4]; exact hs e j x) (fun d x => by rw [h5]; exact hv d x)
    (arg9.view.writes (Elt Ideal) arg9.view.junk kernelRun0_A.sl.HS0_1) (arg10.view.writes (Elt Ideal) arg10.view.junk kernelRun0_A.sl.HS1_1)
    (arg11.view.writes (Elt Ideal) arg11.view.junk kernelRun0_A.sl.HS2_1)
    ⟨fun e j => ?m, fun e j => ?s, fun e d j => ?a⟩ 33 le_rfl
  case m => rw [keys_zero, Finset.sup_empty]; exact (read_stored arg9.view _ _ _ _).trans (pay23_apply _)
  case s => rw [keys_zero, Finset.sum_empty]; exact (read_stored arg10.view _ _ _ _).trans (pay24_apply _)
  case a => rw [keys_zero, Finset.sum_empty]; exact (read_stored arg11.view _ _ _ _).trans (pay25_apply _)
  unfold kernelRun0_A.sl.v36 kernelRun0_A.sl.v38 kernelRun0_A.sl.v44 kernelRun0_A.sl.v46 View.readCov
  simp only [View.writes_append]
  rw [show Scf.trips k0_t1_loop.lb k0_t1_loop.ub k0_t1_loop.st = 33 from trips_eq, hq, h6, h7]
  refine congrArg (norm · (x4 (ix2 d 0)) d) (funext fun d => ?_)
  have a (e : Fin 2) := H.acc e d j
  have l (e : Fin 2) := H.sum e j
  simp only [sc, h4, h5, keys_all] at a l
  unfold attnBlk
  rw [← diff_eq _ _ _ _ (hs 0 j) (hs 1 j) (hv d) hl, ← a 0, ← a 1, ← l 0, ← l 1]
  exact congrArg₂ (· - lam x3 * ·)
    (congrArg₂ (fun a l => a * Ideal.div 1 l) (readAt_plane arg11.view 0 _ rfl _ _ d j) (readAt_plane arg10.view 0 _ rfl _ _ 0 j))
    (congrArg₂ (fun a l => a * Ideal.div 1 l) (readAt_plane arg11.view 1 _ rfl _ _ d j) (readAt_plane arg10.view 1 _ rfl _ _ 0 j))

end Cert.Attn

end
-- ==== Proof.AttnRef.lean ====
module

public import proofs.«01_k».proof.Proof.Gen.ReferenceIdeal.Read
public import proofs.«01_k».proof.Proof.AttnPay

@[expose] public section

/-! The reference's differential attention, element by element. -/

set_option maxRecDepth 16384

noncomputable section

namespace Cert.Attn

open Idealize.ShloMosaic Cert.ReferenceIdeal Cert.ReferenceIdeal.Gen Cert.ReferenceIdeal.Read Cert.Softmax

variable (x0 x1 : FVec Ideal S16896x512 .bf16) (x2 : FVec Ideal S66x512x256 .bf16) (x3 : FVec Ideal S4x64 .f32) (x4 : FVec Ideal S128 .f32)
  (b : Fin 2) (h : Fin 4) (e : Fin 2) (i : Fin 8192) (j : Fin 8448) (d : Fin 128)

/-- The score of batch `b`, head `h`, half `e`, query `i` against key `j`, from the arrays. -/
def scoreOf (x0 x1 : FVec Ideal S16896x512 .bf16) (b : Fin 2) (h : Fin 4) (e : Fin 2) (i : Fin 8192) (j : Fin 8448) : EReal :=
  ∑ x : Fin 64, x0 (ix2 ⟨b.val * 8192 + i.val, by omega⟩ ⟨h.val * 128 + e.val * 64 + x.val, by omega⟩)
    * x1 (ix2 ⟨b.val * 8448 + j.val, by omega⟩ ⟨h.val * 128 + e.val * 64 + x.val, by omega⟩)

/-- The value of key `j` in column `d` of head `h`, from the array of tiles. -/
def valueOf (x2 : FVec Ideal S66x512x256 .bf16) (b : Fin 2) (h : Fin 4) (d : Fin 128) (j : Fin 8448) : EReal :=
  x2 (ix3 ⟨b.val * 33 + j.val / 256, by omega⟩ ⟨h.val * 128 + d.val, by omega⟩ ⟨j.val % 256, by omega⟩)

/-- A score of the reference. -/
theorem v25_eq : val_main_v25 (F := Ideal) x0 x1 (ix5 b h e i j) = scoreOf x0 x1 b h e i j := by
  unfold scoreOf
  pointwise [val_main_v25, val_main_v2, val_main_v1, val_main_v0, val_main_v4, val_main_v3]

/-- A value of the reference. -/
theorem v8_eq : val_main_v8 (F := Ideal) x2 (ix4 b j h d) = valueOf x2 b h d j := by
  unfold valueOf
  pointwise [val_main_v8, val_main_v7, val_main_v6, val_main_v5]

/-- The difference weight of the reference. -/
theorem v24_eq : val_main_v24 (F := Ideal) x3 ix0 = lam x3 := by
  unfold lam
  pointwise [val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1]

/-- The largest score of a query. -/
theorem v26_eq : val_main_v26 (F := Ideal) x0 x1 (ix4 b h e i) = Finset.univ.sup (scoreOf x0 x1 b h e i) := by
  have hf : val_main_v26 (F := Ideal) x0 x1 (ix4 b h e i)
      = Finset.fold max (Ideal.ofBits FTy.f32 4286578688#32) (fun x => val_main_v25 (F := Ideal) x0 x1 (ix5 b h e i x)) Finset.univ := by
    pointwise [val_main_v26, val_main_cst_2]
  rw [hf, ofBits_bot]
  exact congrArg (Finset.univ.sup) (funext fun x => v25_eq x0 x1 b h e i x)

/-- The maximum the softmax subtracts: the row's maximum, taken once more against minus infinity. -/
theorem v28_eq : val_main_v28 (F := Ideal) x0 x1 (ix4 b h e i) = Finset.univ.sup (scoreOf x0 x1 b h e i) := by
  rw [val_main_v28_apply, val_main_v27_apply, v26_eq]
  show max (Ideal.ofBits FTy.f32 4286578688#32) _ = _
  rw [ofBits_bot]
  exact max_eq_right bot_le

/-- The exponential of a shifted score. -/
theorem v32_eq : val_main_v32 (F := Ideal) x0 x1 (ix5 b h e i j)
    = Ideal.exp (scoreOf x0 x1 b h e i j - Finset.univ.sup (scoreOf x0 x1 b h e i)) := by
  have hi : idx_main_v29 (idx_main_v30 (ix5 b h e i j)) = ix4 b h e i := by
    funext a; match a with | ⟨0, _⟩ => rfl | ⟨1, _⟩ => rfl | ⟨2, _⟩ => rfl | ⟨3, _⟩ => rfl
  rw [val_main_v32_apply, val_main_v31_apply, v25_eq, val_main_v30_apply, val_main_v29_apply, hi, v28_eq]
  rfl

/-- The sum of the exponentials. -/
theorem v33_eq : val_main_v33 (F := Ideal) x0 x1 (ix4 b h e i)
    = ∑ x : Fin 8448, Ideal.exp (scoreOf x0 x1 b h e i x - Finset.univ.sup (scoreOf x0 x1 b h e i)) := by
  have hf : val_main_v33 (F := Ideal) x0 x1 (ix4 b h e i) = ∑ x : Fin 8448, val_main_v32 (F := Ideal) x0 x1 (ix5 b h e i x) := by
    pointwise [val_main_v33, val_main_cst_4]
  rw [hf]
  exact Finset.sum_congr rfl fun x _ => v32_eq x0 x1 b h e i x

/-- A softmax probability. -/
theorem v36_eq : val_main_v36 (F := Ideal) x0 x1 (ix5 b h e i j) = prob (scoreOf x0 x1 b h e i) j := by
  have hi : idx_main_v34 (idx_main_v35 (ix5 b h e i j)) = ix4 b h e i := by
    funext a; match a with | ⟨0, _⟩ => rfl | ⟨1, _⟩ => rfl | ⟨2, _⟩ => rfl | ⟨3, _⟩ => rfl
  rw [val_main_v36_apply, v32_eq, val_main_v35_apply, val_main_v34_apply, hi, v33_eq]
  rfl

/-- The difference of the two softmax rows. -/
theorem v43_eq : val_main_v43 (F := Ideal) x0 x1 x3 (ix4 b h i j)
    = prob (scoreOf x0 x1 b h 0 i) j - lam x3 * prob (scoreOf x0 x1 b h 1 i) j := by
  have h0 : idx_main_v37 (idx_main_v38 (ix4 b h i j)) = ix5 b h 0 i j := by
    funext a
    match a with
    | ⟨0, _⟩ => exact Fin.ext (by show (((b.val * 4 + h.val) * 8192 + i.val) * 8448 + j.val) / 276824064 = b.val; omega)
    | ⟨1, _⟩ => exact Fin.ext (by show (((b.val * 4 + h.val) * 8192 + i.val) * 8448 + j.val) / 69206016 % 4 = h.val; omega)
    | ⟨2, _⟩ => rfl
    | ⟨3, _⟩ => exact Fin.ext (by show (((b.val * 4 + h.val) * 8192 + i.val) * 8448 + j.val) / 8448 % 8192 = i.val; omega)
    | ⟨4, _⟩ => exact Fin.ext (by show (((b.val * 4 + h.val) * 8192 + i.val) * 8448 + j.val) % 8448 = j.val; omega)
  have h1 : idx_main_v39 (idx_main_v40 (ix4 b h i j)) = ix5 b h 1 i j := by
    funext a
    match a with
    | ⟨0, _⟩ => exact Fin.ext (by show (((b.val * 4 + h.val) * 8192 + i.val) * 8448 + j.val) / 276824064 = b.val; omega)
    | ⟨1, _⟩ => exact Fin.ext (by show (((b.val * 4 + h.val) * 8192 + i.val) * 8448 + j.val) / 69206016 % 4 = h.val; omega)
    | ⟨2, _⟩ => rfl
    | ⟨3, _⟩ => exact Fin.ext (by show (((b.val * 4 + h.val) * 8192 + i.val) * 8448 + j.val) / 8448 % 8192 = i.val; omega)
    | ⟨4, _⟩ => exact Fin.ext (by show (((b.val * 4 + h.val) * 8192 + i.val) * 8448 + j.val) % 8448 = j.val; omega)
  have hl : idx_main_v41 (ix4 b h i j) = ix0 := funext fun a => a.elim0
  rw [val_main_v43_apply, val_main_v38_apply, val_main_v37_apply, h0, v36_eq, val_main_v42_apply, val_main_v41_apply, hl, v24_eq,
    val_main_v40_apply, val_main_v39_apply, h1, v36_eq]
  rfl

/-- The attention row before its normalisation. -/
def attn (x0 x1 : FVec Ideal S16896x512 .bf16) (x2 : FVec Ideal S66x512x256 .bf16) (x3 : FVec Ideal S4x64 .f32)
    (b : Fin 2) (h : Fin 4) (i : Fin 8192) (d : Fin 128) : EReal :=
  ∑ x : Fin 8448, valueOf x2 b h d x * (prob (scoreOf x0 x1 b h 0 i) x - lam x3 * prob (scoreOf x0 x1 b h 1 i) x)

/-- The difference of the two attentions. -/
theorem v44_eq : val_main_v44 (F := Ideal) x0 x1 x2 x3 (ix4 b h d i) = attn x0 x1 x2 x3 b h i d := by
  rw [val_main_v44_apply]
  refine Finset.sum_congr rfl fun x _ => ?_
  have hl : lidx_main_v44 (ix4 b h d i) x = ix4 b x h d := by
    funext a; match a with | ⟨0, _⟩ => rfl | ⟨1, _⟩ => rfl | ⟨2, _⟩ => rfl | ⟨3, _⟩ => rfl
  have hr : ridx_main_v44 (ix4 b h d i) x = ix4 b h i x := by
    funext a; match a with | ⟨0, _⟩ => rfl | ⟨1, _⟩ => rfl | ⟨2, _⟩ => rfl | ⟨3, _⟩ => rfl
  rw [hl, hr, v8_eq, v43_eq]

/-- An element of the reference's result. -/
theorem v62_eq (r : Fin 16384) (c : Fin 512) : val_main_v62 (F := Ideal) x0 x1 x2 x3 x4 (ix2 r c)
    = norm (attn x0 x1 x2 x3 ⟨r.val / 8192, by omega⟩ ⟨c.val / 128, by omega⟩ ⟨r.val % 8192, by omega⟩)
        (x4 (ix1 ⟨c.val % 128, by omega⟩)) ⟨c.val % 128, by omega⟩ := by
  have hf : val_main_v62 (F := Ideal) x0 x1 x2 x3 x4 (ix2 r c)
      = norm (fun d => val_main_v44 (F := Ideal) x0 x1 x2 x3 (ix4 ⟨r.val / 8192, by omega⟩ ⟨c.val / 128, by omega⟩ d ⟨r.val % 8192, by omega⟩))
          (x4 (ix1 ⟨c.val % 128, by omega⟩)) ⟨c.val % 128, by omega⟩ := by
    unfold norm
    pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_5, val_main_cst_6, val_main_cst_7, val_main_cst_8]
  rw [hf]
  exact congrArg (norm · _ _) (funext fun d => v44_eq x0 x1 x2 x3 _ _ _ d)

end Cert.Attn

end
-- ==== Proof.AttnValue.lean ====
module

public import proofs.«01_k».proof.Proof.AttnBody
public import proofs.«01_k».proof.Proof.AttnRef
public import Idealize.ShloMosaic.Lib.Pipeline.ValueKit
public import Idealize.ShloMosaic.Lib.Claim

@[expose] public section

/-! The differential attention's result array is the reference's, wherever the queries, keys, values and lambda vectors
are finite. -/

set_option maxRecDepth 16384

noncomputable section

namespace Cert.Attn

open Idealize.ShloMosaic Cert.KernelIdeal Cert.KernelIdeal.Gen Cert.Softmax
open Idealize.ShloMosaic.TcCoe Idealize.SL.Sem

/-- Which blocks grid point `t` = (batch, head, query tile) reads and writes. -/
theorem idx : ∀ t : Fin cfg0.N, win0_0.index t = ![t.val / 64 * 16 + t.val % 16, t.val / 16 % 4] ∧ win0_1.index t = ![t.val / 64, t.val / 16 % 4]
    ∧ win0_2.index t = ![t.val / 64, t.val / 16 % 4, 0] ∧ win0_3.index t = ![0, 0] ∧ win0_4.index t = ![0, 0]
    ∧ win0_5.index t = ![t.val / 64 * 16 + t.val % 16, t.val / 16 % 4] ∧ t.val < 128 :=
  (by decide +kernel : ∀ t : Fin grid0.N, _)

variable (m : (ℓ : Loc nD τ sig) → Buf (Elt Ideal) ℓ) (c : Dev nD) (t : Fin cfg0.N)

/-- The block of queries. -/
theorem blk0 (j : Fin 512) (x : Fin 128) (r : Fin 16896) (s : Fin 512) (hr : r.val = (t.val / 64 * 16 + t.val % 16) * 512 + j.val)
    (hs : s.val = t.val / 16 % 4 * 128 + x.val) :
    iblk m c 0 t (ix2 j x) = m ((c : Thread nD τ).loc main_arg0) (ix2 r s) := by
  blk_ext [iblk, V, idx t]

/-- The block of keys. -/
theorem blk1 (j : Fin 8448) (x : Fin 128) (r : Fin 16896) (s : Fin 512) (hr : r.val = t.val / 64 * 8448 + j.val)
    (hs : s.val = t.val / 16 % 4 * 128 + x.val) :
    iblk m c 1 t (ix2 j x) = m ((c : Thread nD τ).loc main_arg1) (ix2 r s) := by
  blk_ext [iblk, V, idx t]

/-- The block of transposed values. -/
theorem blk2 (k : Fin 33) (d : Fin 128) (x : Fin 256) (r : Fin 66) (s : Fin 512) (hr : r.val = t.val / 64 * 33 + k.val)
    (hs : s.val = t.val / 16 % 4 * 128 + d.val) :
    iblk m c 2 t (ix3 k d x) = m ((c : Thread nD τ).loc main_arg2) (ix3 r s x) := by
  blk_ext [iblk, V, idx t]

/-- The lambda vectors. -/
theorem blk3 : iblk m c 3 t = m ((c : Thread nD τ).loc main_arg3) := by
  blk_ext! [iblk, V, idx t]

/-- The gain. -/
theorem blk4 (d : Fin 128) : iblk m c 4 t (ix2 d 0) = m ((c : Thread nD τ).loc main_arg4) (ix1 d) := by
  blk_ext! [iblk, idx t]

/-- The five arguments. -/
abbrev Q : FVec Ideal S16896x512 .bf16 := m ((c : Thread nD τ).loc main_arg0)
abbrev K : FVec Ideal S16896x512 .bf16 := m ((c : Thread nD τ).loc main_arg1)
abbrev W : FVec Ideal S66x512x256 .bf16 := m ((c : Thread nD τ).loc main_arg2)
abbrev Λ : FVec Ideal S4x64 .f32 := m ((c : Thread nD τ).loc main_arg3)
abbrev G : FVec Ideal S128 .f32 := m ((c : Thread nD τ).loc main_arg4)

/-- The scores of a block are those of its batch, head and queries. -/
theorem score_blk (e : Fin 2) (j : Fin 512) (b : Fin 2) (h : Fin 4) (i : Fin 8192) (hb : b.val = t.val / 64) (hh : h.val = t.val / 16 % 4)
    (hi : i.val = t.val % 16 * 512 + j.val) :
    score e (iblk m c 0 t) (iblk m c 1 t) j = scoreOf (Q m c) (K m c) b h e i := by
  funext x
  unfold score scoreOf
  refine Finset.sum_congr rfl fun d _ => ?_
  rw [mul_comm]
  exact congrArg₂ (· * ·)
    (blk0 m c t j _ _ _ (by show b.val * 8192 + i.val = _; omega) (by show h.val * 128 + e.val * 64 + d.val = _ + (e.val * 64 + d.val); omega))
    (blk1 m c t x _ _ _ (by show b.val * 8448 + x.val = _; omega) (by show h.val * 128 + e.val * 64 + d.val = _ + (e.val * 64 + d.val); omega))

/-- The values of a block are those of its batch and head. -/
theorem value_blk (d : Fin 128) (b : Fin 2) (h : Fin 4) (hb : b.val = t.val / 64) (hh : h.val = t.val / 16 % 4) :
    value (iblk m c 2 t) d = valueOf (W m c) b h d := by
  funext x
  exact blk2 m c t _ d _ _ _ (by show b.val * 33 + x.val / 256 = _; rw [hb]) (by show h.val * 128 + d.val = _; rw [hh])

/-- Every score is a real number. -/
theorem real_score (b : Fin 2) (h : Fin 4) (e : Fin 2) (i : Fin 8192) (x : Fin 8448)
    (hq : ∀ i, Real' (Q m c i)) (hk : ∀ i, Real' (K m c i)) : Real' (scoreOf (Q m c) (K m c) b h e i x) :=
  real_sum _ _ fun _ => real_mul (hq _) (hk _)

/-- A float constant with a small exponent is real. -/
theorem real_lamInit : Real' (Ideal.ofBits FTy.f32 1045220557#32) := by
  simp [Ideal.ofBits, Ideal.ieee]
  exact real_mul ⟨_, rfl⟩ ⟨_, rfl⟩

/-- The difference weight is a real number. -/
theorem real_lam (v : FVec Ideal S4x64 .f32) (h : ∀ i, Real' (v i)) : Real' (lam v) :=
  real_add (real_sub (real_exp (real_sum _ _ fun _ => real_mul (h _) (h _))) (real_exp (real_sum _ _ fun _ => real_mul (h _) (h _)))) real_lamInit

/-- The result array is the reference's. -/
theorem final (hq : ∀ i, Real' (Q m c i)) (hk : ∀ i, Real' (K m c i)) (hw : ∀ i, Real' (W m c i)) (hl : ∀ i, Real' (Λ m c i)) :
    (dats m 0 c).arrAt 5 (cfgs 0).N
      = Cert.ReferenceIdeal.Read.val_main_v62 (F := Ideal) (Q m c) (K m c) (W m c) (Λ m c) (G m c) := by
  refine (dats m 0 c).arrAt_eq_of_covers 5 _ (by decide +kernel) fun t _ y => ?_
  blk_simp
  rw [after0_5]
  unfold outsAt0
  obtain ⟨j, d, rfl⟩ : ∃ (j : Fin 512) (d : Fin 128), y = ix2 j d := ⟨y 0, y 1, funext fun a => by match a with | ⟨0, _⟩ => rfl | ⟨1, _⟩ => rfl⟩
  have ht : t.val < 128 := (idx t).2.2.2.2.2.2
  have hS : ∀ (e : Fin 2) (j : Fin 512), score e (iblk m c 0 t) (iblk m c 1 t) j
      = scoreOf (Q m c) (K m c) ⟨t.val / 64, by omega⟩ ⟨t.val / 16 % 4, by omega⟩ e ⟨t.val % 16 * 512 + j.val, by omega⟩ :=
    fun e j => score_blk m c t e j _ _ _ rfl rfl rfl
  have hV : ∀ d : Fin 128, value (iblk m c 2 t) d = valueOf (W m c) ⟨t.val / 64, by omega⟩ ⟨t.val / 16 % 4, by omega⟩ d :=
    fun d => value_blk m c t d _ _ rfl rfl
  refine (out_apply c (grid0.coords t) _ _ _ _ _ _ _ _ _ _ _ _ _ _ _ _ _ _ (iblk m c 0 t) (iblk m c 1 t) (iblk m c 2 t) (iblk m c 3 t) (iblk m c 4 t)
    (fun e j x => by rw [hS]; exact real_score m c _ _ _ _ _ hq hk) (fun d x => by rw [hV]; exact hw _)
    (by rw [blk3]; exact real_lam _ hl) j d).trans ?_
  have hy : ((cfg0.win 5).blk t).view.emb (ix2 j d)
      = ix2 (⟨(t.val / 64 * 16 + t.val % 16) * 512 + j.val, by omega⟩ : Fin 16384) (⟨t.val / 16 % 4 * 128 + d.val, by omega⟩ : Fin 512) := by
    blk_ext [idx t]
  rw [hy]
  refine Eq.trans ?_ (v62_eq (Q m c) (K m c) (W m c) (Λ m c) (G m c) _ _).symm
  have e1 : attnBlk (iblk m c 0 t) (iblk m c 1 t) (iblk m c 2 t) (iblk m c 3 t) j
      = attn (Q m c) (K m c) (W m c) (Λ m c) ⟨t.val / 64, by omega⟩ ⟨t.val / 16 % 4, by omega⟩ ⟨t.val % 16 * 512 + j.val, by omega⟩ := by
    funext d
    unfold attnBlk attn
    rw [hS, hS, hV, blk3]
  have eb : (⟨((t.val / 64 * 16 + t.val % 16) * 512 + j.val) / 8192, by omega⟩ : Fin 2) = ⟨t.val / 64, by omega⟩ := Fin.ext (by show _ / 8192 = t.val / 64; omega)
  have eh : (⟨(t.val / 16 % 4 * 128 + d.val) / 128, by omega⟩ : Fin 4) = ⟨t.val / 16 % 4, by omega⟩ := Fin.ext (by show _ / 128 = t.val / 16 % 4; omega)
  have ei : (⟨((t.val / 64 * 16 + t.val % 16) * 512 + j.val) % 8192, by omega⟩ : Fin 8192) = ⟨t.val % 16 * 512 + j.val, by omega⟩ :=
    Fin.ext (by show _ % 8192 = t.val % 16 * 512 + j.val; omega)
  have ed : (⟨(t.val / 16 % 4 * 128 + d.val) % 128, by omega⟩ : Fin 128) = d := Fin.ext (by show _ % 128 = d.val; omega)
  rw [e1]
  dsimp only
  rw [eb, eh, ei, ed]
  exact congrArg (norm _ · d) (blk4 m c t d)

end Cert.Attn

end
-- ==== Proof.AttnPre.lean ====
module

public import proofs.«01_k».proof.Proof.Softmax
public import proofs.«01_k».proof.Pre_finite
public import Idealize.ShloMosaic.Lib.Pointwise

@[expose] public section

/-! What the precondition says of an entry: it is a real number. -/

set_option maxRecDepth 16384

noncomputable section

namespace Cert.Attn

open Idealize.ShloMosaic Cert.Softmax

/-- The shape relations the precondition's own operations take. -/
theorem preFacts : Cert.Pre_finite.Facts := ⟨by decide, by decide +kernel, by decide +kernel, by decide +kernel⟩

/-- An extended real below plus infinity and above minus infinity is a real number. -/
theorem real_of_lt {a : EReal} (h : FloatOps.cmpf (F := Ideal) (φ := .f32) .olt a (Ideal.ofBits .f32 0x7F800000#32)
    &&& FloatOps.cmpf (F := Ideal) (φ := .f32) .ogt a (Ideal.ofBits .f32 0xFF800000#32) = 1#1) : Real' a := by
  induction a with
  | bot => exact absurd h (by simp [FloatOps.cmpf, Ideal.cmp, Ideal.ofBits, Ideal.ieee])
  | top => exact absurd h (by simp [FloatOps.cmpf, Ideal.cmp, Ideal.ofBits, Ideal.ieee])
  | coe r => exact ⟨r, rfl⟩

variable [Cert.Pre_finite.Facts] {q : FVec Ideal Cert.Pre_finite.S16896x512 .bf16} {k : FVec Ideal Cert.Pre_finite.S16896x512 .bf16}
  {w : FVec Ideal Cert.Pre_finite.S66x512x256 .bf16} {l : FVec Ideal Cert.Pre_finite.S4x64 .f32} {g : FVec Ideal Cert.Pre_finite.S128 .f32}

/-- The first mask of the precondition makes every query entry real. -/
theorem queries_real (h : (Cert.Pre_finite.fn (F := Ideal) q k w l g).1 = fun _ => 1#1) (i) : Real' (q i) := real_of_lt (congrFun h i)
/-- The second mask makes every key entry real. -/
theorem keys_real (h : (Cert.Pre_finite.fn (F := Ideal) q k w l g).2.1 = fun _ => 1#1) (i) : Real' (k i) := real_of_lt (congrFun h i)
/-- The third mask makes every value entry real. -/
theorem values_real (h : (Cert.Pre_finite.fn (F := Ideal) q k w l g).2.2.1 = fun _ => 1#1) (i) : Real' (w i) := real_of_lt (congrFun h i)
/-- The fourth mask makes every entry of the four lambda vectors real. -/
theorem lambdas_real (h : (Cert.Pre_finite.fn (F := Ideal) q k w l g).2.2.2 = fun _ => 1#1) (i) : Real' (l i) := real_of_lt (congrFun h i)

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.FfnFinal
public import proofs.«01_k».proof.Proof.ConvValue
public import proofs.«01_k».proof.Proof.OutProj
public import proofs.«01_k».proof.Proof.AttnInValue
public import proofs.«01_k».proof.Proof.ModVec
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.AttnValue
public import proofs.«01_k».proof.Proof.AttnPre
public import proofs.«01_k».proof.Proof.FfnValue
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The shape facts of every program and of the precondition. -/
local instance : Cert.Pre_finite.Facts := Cert.Attn.preFacts

/-- The attention's reference leaves its arguments as they were; it has no semaphore. -/
theorem attentionRef : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run m ρ)

/-- The feed-forward reference leaves its arguments as they were; it has no semaphore. -/
theorem feedForwardRef : Cert.quiescent_Reference2Ideal := fun m ρ _ =>
  (θ_run Cert.Reference2Ideal.defs _ _).mono (fun r h => And.intro (fun c => (h c).2) (sem_eq_zero_of_no_sems (by decide) r.2))
    (Cert.Reference2Ideal.Value.run m ρ)

/-- The attention's result is its reference's, wherever queries, keys, values and lambda vectors are finite. -/
theorem attention : Cert.algebraic_KernelIdeal_ReferenceIdeal_pre_finite := by
  pair_intro
  · run_from Cert.KernelIdeal.Value.run_blocks m g
  · run_from Cert.ReferenceIdeal.Value.run m' g'
    rw [Cert.ReferenceIdeal.Read.val_main_v62_eq, (hagree c).1, (hagree c).2.1, (hagree c).2.2.1, (hagree c).2.2.2.1, (hagree c).2.2.2.2]
    exact (Cert.Attn.final m c (Cert.Attn.queries_real (hpre c).1) (Cert.Attn.keys_real (hpre c).2.1)
      (Cert.Attn.values_real (hpre c).2.2.1) (Cert.Attn.lambdas_real (hpre c).2.2.2)).symm

/-- The feed-forward block's result is its reference's. -/
theorem feedForward : Cert.algebraic_Kernel2Ideal_Reference2Ideal := by
  pair_intro
  · run_from Cert.Kernel2Ideal.Value.run_blocks m g
  · run_from Cert.Reference2Ideal.Value.run m' g'
    rw [Cert.Reference2Ideal.Read.val_main_v39_eq, (hagree c).1, (hagree c).2.1, (hagree c).2.2.1, (hagree c).2.2.2.1, (hagree c).2.2.2.2.1,
      (hagree c).2.2.2.2.2]
    exact (Cert.Ffn.final m c).symm

/-- The feed-forward reference with the final norm leaves its arguments as they were; it has no semaphore. -/
theorem feedForwardNormRef : Cert.quiescent_Reference3Ideal := fun m ρ _ =>
  (θ_run Cert.Reference3Ideal.defs _ _).mono (fun r h => And.intro (fun c => (h c).2) (sem_eq_zero_of_no_sems (by decide) r.2))
    (Cert.Reference3Ideal.Value.run m ρ)

/-- The mixer's reference leaves its arguments as they were; it has no semaphore. -/
theorem mixerRef : Cert.quiescent_Reference4Ideal := fun m ρ _ =>
  (θ_run Cert.Reference4Ideal.defs _ _).mono (fun r h => And.intro (fun c => (h c).2) (sem_eq_zero_of_no_sems (by decide) r.2))
    (Cert.Reference4Ideal.Value.run m ρ)

/-- The output projection's reference leaves its arguments as they were; it has no semaphore. -/
theorem projectionRef : Cert.quiescent_Reference5Ideal := fun m ρ _ =>
  (θ_run Cert.Reference5Ideal.defs _ _).mono (fun r h => And.intro (fun c => (h c).2) (sem_eq_zero_of_no_sems (by decide) r.2))
    (Cert.Reference5Ideal.Value.run m ρ)

/-- The result of the feed-forward block with the final norm is its reference's. -/
theorem feedForwardNorm : Cert.algebraic_Kernel3Ideal_Reference3Ideal := by
  pair_intro
  · run_from Cert.Kernel3Ideal.Value.run_blocks m g
  · run_from Cert.Reference3Ideal.Value.run m' g'
    rw [Cert.Reference3Ideal.Read.val_main_v52_eq, (hagree c).1, (hagree c).2.1, (hagree c).2.2.1, (hagree c).2.2.2.1, (hagree c).2.2.2.2.1,
      (hagree c).2.2.2.2.2.1, (hagree c).2.2.2.2.2.2]
    exact (Cert.FfnFinal.final m c).symm

/-- The mixer's result is its reference's. -/
theorem mixer : Cert.algebraic_Kernel4Ideal_Reference4Ideal := by
  pair_intro
  · run_from Cert.Kernel4Ideal.Value.run_blocks m g
  · run_from Cert.Reference4Ideal.Value.run m' g'
    rw [Cert.Reference4Ideal.Read.val_main_v60_eq, (hagree c).1, (hagree c).2.1, (hagree c).2.2.1, (hagree c).2.2.2.1, (hagree c).2.2.2.2.1,
      (hagree c).2.2.2.2.2]
    exact (Cert.Conv.final m c).symm

/-- The output projection's result is its reference's. -/
theorem projection : Cert.algebraic_Kernel5Ideal_Reference5Ideal := by
  pair_intro
  · run_from Cert.Kernel5Ideal.Value.run_blocks m g
  · run_from Cert.Reference5Ideal.Value.run m' g'
    rw [Cert.Reference5Ideal.Read.val_main_v14_eq, (hagree c).2.1, (hagree c).2.2.1]
    exact (Cert.OutProj.final m c).symm

/-- The input projection's reference leaves its arguments as they were; it has no semaphore. -/
theorem inputRef : Cert.quiescent_Reference6Ideal := fun m ρ _ =>
  (θ_run Cert.Reference6Ideal.defs _ _).mono (fun r h => And.intro (fun c => (h c).2.2.2.2.2.2) (sem_eq_zero_of_no_sems (by decide) r.2))
    (Cert.Reference6Ideal.Value.run m ρ)

set_option maxHeartbeats 2000000 in
/-- The input projection's six results are its reference's. -/
theorem input : Cert.algebraic_Kernel6Ideal_Reference6Ideal := by
  pair_intro
  · run_from Cert.Kernel6Ideal.Value.run_blocks m g
  · run_from Cert.Reference6Ideal.Value.run m' g'
    all_goals have h0 : StableHlo.launchContents m' c (Proc.tc.devRef Cert.Reference6Ideal.main_arg0) = Cert.AttnIn.X m c := (hagree c).1
    all_goals have h1 : StableHlo.launchContents m' c (Proc.tc.devRef Cert.Reference6Ideal.main_arg1) = Cert.AttnIn.M m c := (hagree c).2.1
    all_goals have h2 : StableHlo.launchContents m' c (Proc.tc.devRef Cert.Reference6Ideal.main_arg2) = Cert.AttnIn.G m c := (hagree c).2.2.1
    all_goals have h3 : StableHlo.launchContents m' c (Proc.tc.devRef Cert.Reference6Ideal.main_arg3) = Cert.AttnIn.W m c := (hagree c).2.2.2
    · rw [Cert.Reference6Ideal.Read.val_main_v91_eq, h0, h1, h2, h3]
      exact (Cert.AttnIn.final7 m c).symm
    · rw [Cert.Reference6Ideal.Read.val_main_v94_eq, h0, h1, h2, h3]
      exact (Cert.AttnIn.final8 m c).symm
    · rw [Cert.Reference6Ideal.Read.val_main_v97_eq, h0, h1, h2, h3]
      exact (Cert.AttnIn.final9 m c).symm
    · rw [Cert.Reference6Ideal.Read.val_main_v128_eq, h0, h1, h2, h3]
      exact (Cert.AttnIn.final10 m c).symm
    · rw [Cert.Reference6Ideal.Read.val_main_v154_eq, h0, h1, h2, h3]
      exact (Cert.AttnIn.final11 m c).symm
    · rw [Cert.Reference6Ideal.Read.val_main_v83_eq, h0, h1, h2, h3]
      exact (Cert.AttnIn.final12 m c).symm

/-- The modulation vectors' reference leaves its arguments as they were; it has no semaphore. -/
theorem modVectorsRef : Cert.quiescent_Reference7Ideal := fun m ρ _ =>
  (θ_run Cert.Reference7Ideal.defs _ _).mono (fun r h => And.intro (fun c => (h c).2) (sem_eq_zero_of_no_sems (by decide) r.2))
    (Cert.Reference7Ideal.Value.run m ρ)

/-- The modulation vectors are their reference's. -/
theorem modVectors : Cert.algebraic_Kernel7Ideal_Reference7Ideal := by
  pair_intro
  · run_from Cert.Kernel7Ideal.Value.run_blocks m g
  · run_from Cert.Reference7Ideal.Value.run m' g'
    rw [Cert.Reference7Ideal.Read.val_main_v32_eq, (hagree c).1, (hagree c).2.1, (hagree c).2.2.1, (hagree c).2.2.2]
    exact (Cert.ModVec.final m c).symm

/-- Every claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Kernel7.Gen.facts,
  Cert.Kernel7Ideal.Gen.facts, Cert.Reference7Ideal.Gen.facts, Cert.Attn.preFacts,
  fun m ρ _ => Cert.Kernel.Gen.frame m ρ,
  fun m ρ _ => Cert.KernelIdeal.Gen.frame m ρ,
  fun m ρ _ => Cert.KernelIdeal.Gen.frame m ρ,
  attentionRef,
  fun m ρ _ => attentionRef m ρ trivial,
  fun m ρ _ => Cert.Kernel2.Gen.frame m ρ,
  fun m ρ _ => Cert.Kernel2Ideal.Gen.frame m ρ,
  feedForwardRef,
  fun m ρ _ => Cert.Kernel3.Gen.frame m ρ,
  fun m ρ _ => Cert.Kernel3Ideal.Gen.frame m ρ,
  feedForwardNormRef,
  fun m ρ _ => Cert.Kernel4.Gen.frame m ρ,
  fun m ρ _ => Cert.Kernel4Ideal.Gen.frame m ρ,
  mixerRef,
  fun m ρ _ => Cert.Kernel5.Gen.frame m ρ,
  fun m ρ _ => Cert.Kernel5Ideal.Gen.frame m ρ,
  projectionRef,
  fun m ρ _ => Cert.Kernel6.Gen.frame m ρ,
  fun m ρ _ => Cert.Kernel6Ideal.Gen.frame m ρ,
  inputRef,
  fun m ρ _ => Cert.Kernel7.Gen.frame m ρ,
  fun m ρ _ => Cert.Kernel7Ideal.Gen.frame m ρ,
  modVectorsRef,
  trivial, attention, trivial, feedForward, trivial, feedForwardNorm, trivial, mixer, trivial, projection, trivial, input,
  trivial, modVectors⟩

end Cert.Proof

end
